-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "big" .f32 0x7F61B1E6#32 ⊤
  ∧ IdealRules.named_const.Statement Cert.KernelIdeal.κ "inv_e" .f32 0x358637BD#32 ((1000000⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S50000x3 : Shape := ⟨2, ![50000, 3]⟩
abbrev S50000 : Shape := ⟨1, ![50000]⟩
abbrev S6x64 : Shape := ⟨2, ![6, 64]⟩
abbrev S64 : Shape := ⟨1, ![64]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_cst_6 : FVec F S_ .f32 := constant S_ .f32 0x00000000#32
  let main_v19 : FVec F S64 .f32 := broadcastInDim S64 ![] bcast_S_S64 main_cst_6
  let main_v20 : IVec S64 1 := cmpf .ogt main_arg4 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  main_v22

def fn {F : FTy → Type} [FloatOps F] (main_arg0 : FVec F S50000x3 .f32) (main_arg1 : IVec S50000 32) (main_arg2 : FVec F S6x64 .f32) (main_arg3 : FVec F S64 .f32) (main_arg4 : FVec F S64 .f32) (main_arg5 : FVec F S64 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S50000x3 : Shape := ⟨2, ![50000, 3]⟩
abbrev S50000 : Shape := ⟨1, ![50000]⟩
abbrev S6x64 : Shape := ⟨2, ![6, 64]⟩
abbrev S64 : Shape := ⟨1, ![64]⟩
abbrev S_ : Shape := ⟨0, ![]⟩
abbrev S8x64 : Shape := ⟨2, ![8, 64]⟩
abbrev S1x64 : Shape := ⟨2, ![1, 64]⟩
abbrev S50000x64 : Shape := ⟨2, ![50000, 64]⟩
abbrev S50x1x64 : Shape := ⟨3, ![50, 1, 64]⟩
abbrev S1000x3 : Shape := ⟨2, ![1000, 3]⟩
abbrev S1000x64 : Shape := ⟨2, ![1000, 64]⟩
abbrev S1x1x64 : Shape := ⟨3, ![1, 1, 64]⟩
abbrev S1000x1000 : Shape := ⟨2, ![1000, 1000]⟩
abbrev S3x64 : Shape := ⟨2, ![3, 64]⟩
abbrev S1000 : Shape := ⟨1, ![1000]⟩
abbrev S1000x1 : Shape := ⟨2, ![1000, 1]⟩
abbrev S1x1000 : Shape := ⟨2, ![1, 1000]⟩
abbrev S1x1000x1 : Shape := ⟨3, ![1, 1000, 1]⟩
abbrev S1 : Shape := ⟨1, ![1]⟩
abbrev S1x1x1 : Shape := ⟨3, ![1, 1, 1]⟩
abbrev S64x1000 : Shape := ⟨2, ![64, 1000]⟩
abbrev S40x1000 : Shape := ⟨2, ![40, 1000]⟩
abbrev S40x64 : Shape := ⟨2, ![40, 64]⟩
abbrev S40x1x1000 : Shape := ⟨3, ![40, 1, 1000]⟩
abbrev S40x64x1 : Shape := ⟨3, ![40, 64, 1]⟩
abbrev S40x64x1000 : Shape := ⟨3, ![40, 64, 1000]⟩
abbrev S5000x64 : Shape := ⟨2, ![5000, 64]⟩

abbrev nBuf : Space → Nat
  | .hbm => 16
  | .vmem => 20
  | .smem => 0
  | _ => 0

abbrev bufTy : (tb : Table) → Fin (tcTables nBuf tb) → BufTy
  | .hbm, ⟨0, _⟩ => ⟨S50000x3, .f32⟩
  | .hbm, ⟨1, _⟩ => ⟨S50000, .i32⟩
  | .hbm, ⟨2, _⟩ => ⟨S6x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S8x64, .f32⟩
  | .hbm, ⟨9, _⟩ => ⟨S1x64, .f32⟩
  | .hbm, ⟨10, _⟩ => ⟨S50000x64, .f32⟩
  | .hbm, ⟨11, _⟩ => ⟨S50x1x64, .f32⟩
  | .hbm, ⟨12, _⟩ => ⟨S50x1x64, .f32⟩
  | .hbm, ⟨13, _⟩ => ⟨S1x64, .f32⟩
  | .hbm, ⟨14, _⟩ => ⟨S1x64, .f32⟩
  | .hbm, ⟨15, _⟩ => ⟨S50000x64, .f32⟩
  | .local _ .vmem, ⟨0, _⟩ => ⟨S1000x3, .f32⟩
  | .local _ .vmem, ⟨1, _⟩ => ⟨S1000x3, .f32⟩
  | .local _ .vmem, ⟨2, _⟩ => ⟨S8x64, .f32⟩
  | .local _ .vmem, ⟨3, _⟩ => ⟨S1x64, .f32⟩
  | .local _ .vmem, ⟨4, _⟩ => ⟨S1000x64, .f32⟩
  | .local _ .vmem, ⟨5, _⟩ => ⟨S1000x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1000x1000, .f32⟩
  | .local _ .vmem, ⟨11, _⟩ => ⟨S1000x64, .f32⟩
  | .local _ .vmem, ⟨12, _⟩ => ⟨S5000x64, .f32⟩
  | .local _ .vmem, ⟨13, _⟩ => ⟨S5000x64, .f32⟩
  | .local _ .vmem, ⟨14, _⟩ => ⟨S50x1x64, .f32⟩
  | .local _ .vmem, ⟨15, _⟩ => ⟨S50x1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c19_i32 : BitVec 32 := 19#32
  let v24 : BitVec 32 := Scalar.addi c0_i32 c19_i32
  let c1_i32 : BitVec 32 := 1#32
  ⟨c0_i32, v24, c1_i32⟩
@[reducible] def k0_t2_loop : Scf.Loop 32 :=
  let c0_i32_56 : BitVec 32 := 0#32
  let c20_i32 : BitVec 32 := 20#32
  let v114 : BitVec 32 := Scalar.addi c0_i32_56 c20_i32
  let c1_i32_57 : BitVec 32 := 1#32
  ⟨c0_i32_56, v114, c1_i32_57⟩
@[reducible] def k0_t3_loop : Scf.Loop 32 :=
  let c0_i32_49 : BitVec 32 := 0#32
  let c25_i32 : BitVec 32 := 25#32
  let v107 : BitVec 32 := Scalar.addi c0_i32_49 c25_i32
  let c1_i32_50 : BitVec 32 := 1#32
  ⟨c0_i32_49, v107, c1_i32_50⟩
def k0_off1 (k0_t3 : Fin k0_t3_loop.trips) : Fin 2 → Nat :=
  let c0_i32_49 : BitVec 32 := 0#32
  let c1_i32_50 : BitVec 32 := 1#32
  let arg9 : BitVec 32 := Scf.iv c0_i32_49 c1_i32_50 k0_t3
  let c40_i32 : BitVec 32 := 40#32
  let v112 : BitVec 32 := Scalar.muli arg9 c40_i32
  let v113 : Index := Scalar.indexCast v112
  let c0_54 : Index := 0#32
  ![v113.toNat, 0]
def k0_off2 (k0_t3 : Fin k0_t3_loop.trips) : Fin 2 → Nat :=
  let c0_i32_49 : BitVec 32 := 0#32
  let c1_i32_50 : BitVec 32 := 1#32
  let arg9 : BitVec 32 := Scf.iv c0_i32_49 c1_i32_50 k0_t3
  let c40_i32_55 : BitVec 32 := 40#32
  let v115 : BitVec 32 := Scalar.muli arg9 c40_i32_55
  let v116 : Index := Scalar.indexCast v115
  let c0_56 : Index := 0#32
  ![v116.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50x1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "big" => some ⊤
  | "inv_e" => some ((1000000⁻¹ : ℝ) : EReal)
  | _ => none
-- ==== ReferenceIdeal.lean ====
abbrev S50000x3 : Shape := ⟨2, ![50000, 3]⟩
abbrev S50000 : Shape := ⟨1, ![50000]⟩
abbrev S6x64 : Shape := ⟨2, ![6, 64]⟩
abbrev S64 : Shape := ⟨1, ![64]⟩
abbrev S50x1000x3 : Shape := ⟨3, ![50, 1000, 3]⟩
abbrev S_ : Shape := ⟨0, ![]⟩
abbrev S50x1000 : Shape := ⟨2, ![50, 1000]⟩
abbrev S50x1000x1 : Shape := ⟨3, ![50, 1000, 1]⟩
abbrev S50x1x1000 : Shape := ⟨3, ![50, 1, 1000]⟩
abbrev S50x1000x1000 : Shape := ⟨3, ![50, 1000, 1000]⟩
abbrev S50x1000x20 : Shape := ⟨3, ![50, 1000, 20]⟩
abbrev S50 : Shape := ⟨1, ![50]⟩
abbrev S50x1x1 : Shape := ⟨3, ![50, 1, 1]⟩
abbrev S1000000 : Shape := ⟨1, ![1000000]⟩
abbrev S50000x20 : Shape := ⟨2, ![50000, 20]⟩
abbrev S1000000x1 : Shape := ⟨2, ![1000000, 1]⟩
abbrev S1000000x3 : Shape := ⟨2, ![1000000, 3]⟩
abbrev S1000000x6 : Shape := ⟨2, ![1000000, 6]⟩
abbrev S1000000x64 : Shape := ⟨2, ![1000000, 64]⟩
abbrev S1x64 : Shape := ⟨2, ![1, 64]⟩
abbrev S50x20000x64 : Shape := ⟨3, ![50, 20000, 64]⟩
abbrev S50x20000 : Shape := ⟨2, ![50, 20000]⟩
abbrev S50x20000x1x1 : Shape := ⟨4, ![50, 20000, 1, 1]⟩
abbrev S1000 : Shape := ⟨1, ![1000]⟩
abbrev S1x1x1000x1 : Shape := ⟨4, ![1, 1, 1000, 1]⟩
abbrev S50x20000x1000x1 : Shape := ⟨4, ![50, 20000, 1000, 1]⟩
abbrev S50x20000x1x64 : Shape := ⟨4, ![50, 20000, 1, 64]⟩
abbrev S50x20000x1000x64 : Shape := ⟨4, ![50, 20000, 1000, 64]⟩
abbrev S50x1000x64 : Shape := ⟨3, ![50, 1000, 64]⟩
abbrev S50000x64 : Shape := ⟨2, ![50000, 64]⟩

abbrev nBuf : Space → Nat
  | .hbm => 127
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000, .i32⟩
  | .hbm, ⟨2, _⟩ => ⟨S6x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S50x1000x3, .f32⟩
  | .hbm, ⟨7, _⟩ => ⟨S50x1000x3, .f32⟩
  | .hbm, ⟨8, _⟩ => ⟨S_, .f32⟩
  | .hbm, ⟨9, _⟩ => ⟨S50x1000, .f32⟩
  | .hbm, ⟨10, _⟩ => ⟨S50x1000x1, .f32⟩
  | .hbm, ⟨11, _⟩ => ⟨S50x1x1000, .f32⟩
  | .hbm, ⟨12, _⟩ => ⟨S50x1000x1000, .f32⟩
  | .hbm, ⟨13, _⟩ => ⟨S50x1000x1000, .f32⟩
  | .hbm, ⟨14, _⟩ => ⟨S50x1000x1000, .f32⟩
  | .hbm, ⟨15, _⟩ => ⟨S50x1000x1000, .f32⟩
  | .hbm, ⟨16, _⟩ => ⟨S_, .f32⟩
  | .hbm, ⟨17, _⟩ => ⟨S50x1000x1000, .f32⟩
  | .hbm, ⟨18, _⟩ => ⟨S50x1000x1000, .f32⟩
  | .hbm, ⟨19, _⟩ => ⟨S50x1000x1000, .f32⟩
  | .hbm, ⟨20, _⟩ => ⟨S50x1000x1000, .f32⟩
  | .hbm, ⟨21, _⟩ => ⟨S50x1000x20, .f32⟩
  | .hbm, ⟨22, _⟩ => ⟨S50x1000x20, .i32⟩
  | .hbm, ⟨23, _⟩ => ⟨S50, .i32⟩
  | .hbm, ⟨24, _⟩ => ⟨S_, .i32⟩
  | .hbm, ⟨25, _⟩ => ⟨S50, .i32⟩
  | .hbm, ⟨26, _⟩ => ⟨S50, .i32⟩
  | .hbm, ⟨27, _⟩ => ⟨S50x1x1, .i32⟩
  | .hbm, ⟨28, _⟩ => ⟨S50x1000x20, .i32⟩
  | .hbm, ⟨29, _⟩ => ⟨S50x1000x20, .i32⟩
  | .hbm, ⟨30, _⟩ => ⟨S1000000, .i32⟩
  | .hbm, ⟨31, _⟩ => ⟨S50000, .i32⟩
  | .hbm, ⟨32, _⟩ => ⟨S50000x20, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x3, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x3, .f32⟩
  | .hbm, ⟨52, _⟩ => ⟨S1000000x3, .f32⟩
  | .hbm, ⟨53, _⟩ => ⟨S1000000x6, .f32⟩
  | .hbm, ⟨54, _⟩ => ⟨S1000000x64, .f32⟩
  | .hbm, ⟨55, _⟩ => ⟨S1x64, .f32⟩
  | .hbm, ⟨56, _⟩ => ⟨S1000000x64, .f32⟩
  | .hbm, ⟨57, _⟩ => ⟨S1000000x64, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .i32⟩
  | .hbm, ⟨64, _⟩ => ⟨S_, .f32⟩
  | .hbm, ⟨65, _⟩ => ⟨S64, .f32⟩
  | .hbm, ⟨66, _⟩ => ⟨S1x64, .f32⟩
  | .hbm, ⟨67, _⟩ => ⟨S_, .f32⟩
  | .hbm, ⟨68, _⟩ => ⟨S1x64, .f32⟩
  | .hbm, ⟨69, _⟩ => ⟨S1x64, .f32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S_, .i1⟩
  | .hbm, ⟨82, _⟩ => ⟨S_, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S1x64, .f32⟩
  | .hbm, ⟨87, _⟩ => ⟨S1000000x64, .f32⟩
  | .hbm, ⟨88, _⟩ => ⟨S1000000x64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S1000000x64, .f32⟩
  | .hbm, ⟨95, _⟩ => ⟨S1000000x64, .f32⟩
  | .hbm, ⟨96, _⟩ => ⟨S1x64, .f32⟩
  | .hbm, ⟨97, _⟩ => ⟨S1000000x64, .f32⟩
  | .hbm, ⟨98, _⟩ => ⟨S1000000x64, .f32⟩
  | .hbm, ⟨99, _⟩ => ⟨S1x64, .f32⟩
  | .hbm, ⟨100, _⟩ => ⟨S1000000x64, .f32⟩
  | .hbm, ⟨101, _⟩ => ⟨S1000000x64, .f32⟩
  | .hbm, ⟨102, _⟩ => ⟨S_, .f32⟩
  | .hbm, ⟨103, _⟩ => ⟨S1000000x64, .f32⟩
  | .hbm, ⟨104, _⟩ => ⟨S1000000x64, .i1⟩
  | .hbm, ⟨105, _⟩ => ⟨S_, .f32⟩
  | .hbm, ⟨106, _⟩ => ⟨S1000000x64, .f32⟩
  | .hbm, ⟨107, _⟩ => ⟨S1000000x64, .f32⟩
  | .hbm, ⟨108, _⟩ => ⟨S1000000x64, .f32⟩
  | .hbm, ⟨109, _⟩ => ⟨S50x20000x64, .f32⟩
  | .hbm, ⟨110, _⟩ => ⟨S50x20000, .i32⟩
  | .hbm, ⟨111, _⟩ => ⟨S50x20000x1x1, .i32⟩
  | .hbm, ⟨112, _⟩ => ⟨S1000, .i32⟩
  | .hbm, ⟨113, _⟩ => ⟨S1x1x1000x1, .i32⟩
  | .hbm, ⟨114, _⟩ => ⟨S50x20000x1000x1, .i32⟩
  | .hbm, ⟨115, _⟩ => ⟨S50x20000x1000x1, .i32⟩
  | .hbm, ⟨116, _⟩ => ⟨S50x20000x1000x1, .i1⟩
  | .hbm, ⟨117, _⟩ => ⟨S50x20000x1x64, .f32⟩
  | .hbm, ⟨118, _⟩ => ⟨S_, .f32⟩
  | .hbm, ⟨119, _⟩ => ⟨S_, .f32⟩
  | .hbm, ⟨120, _⟩ => ⟨S50x20000x1000x64, .i1⟩
  | .hbm, ⟨121, _⟩ => ⟨S50x20000x1000x64, .f32⟩
  | .hbm, ⟨122, _⟩ => ⟨S50x20000x1000x64, .f32⟩
  | .hbm, ⟨123, _⟩ => ⟨S50x20000x1000x64, .f32⟩
  | .hbm, ⟨124, _⟩ => ⟨S_, .f32⟩
  | .hbm, ⟨125, _⟩ => ⟨S50x1000x64, .f32⟩
  | .hbm, ⟨126, _⟩ => ⟨S50000x64, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_cst_3 : Ref sig .tc := ⟨.hbm, 80, rfl⟩
abbrev main_call0_v12 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_8 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_9 : Ref sig .tc := ⟨.hbm, 102, rfl⟩
abbrev main_v62 : Ref sig .tc := ⟨.hbm, 103, rfl⟩
abbrev main_v63 : Ref sig .tc := ⟨.hbm, 104, rfl⟩
abbrev main_cst_10 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_v76 : Ref sig .tc := ⟨.hbm, 123, rfl⟩
abbrev main_cst_12 : Ref sig .tc := ⟨.hbm, 124, rfl⟩
abbrev main_v77 : Ref sig .tc := ⟨.hbm, 125, rfl⟩
abbrev main_v78 : Ref sig .tc := ⟨.hbm, 126, rfl⟩

abbrev nD : Nat := 1
abbrev τ : Topo := Topo.v7x

variable {F : FTy → Type} [FloatOps F]
-- ==== Proof.Body1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The offsets of a whole rank-two block are zero. -/
theorem hz2 : (![0, 0] : Fin 2 → Nat) = fun _ => 0 := funext fun a => by fin_cases a <;> rfl
/-- The offsets of a whole rank-three block are zero. -/
theorem hz3 : (![0, 0, 0] : Fin 3 → Nat) = fun _ => 0 := funext fun a => by fin_cases a <;> rfl

/-- A store through the whole rectangle, last, leaves its payload. -/
theorem read_writes_whole {S : Shape} {e : EltTy} {κ : Kind} {sp : Space} {v : View sig κ sp S e} {off : Fin S.rank → Nat} (h : off = fun _ => 0)
    {f : v.ty.Contents (Elt F)} (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ fun y => ⟨_, List.mem_singleton.mpr rfl, ?_⟩]
  · exact View.canon_unit_zero rfl inb w
  · rw [Rect.mem_set_unit]; intro a; exact ⟨Nat.zero_le _, by simpa using (y a).isLt⟩

/-- A load through the whole rectangle reads the whole. -/
theorem readAt_whole {S : Shape} {e : EltTy} {κ : Kind} {sp : Space} {v : View sig κ sp S e} {off : Fin S.rank → Nat} (h : off = fun _ => 0)
    {f : v.ty.Contents (Elt F)} (inb : ∀ a, off a + S.size a ≤ S.size a) :
    v.readAt (Elt F) (Rect.unit off S.size inb).toLoadRect f = v.read (Elt F) f := by
  rw [View.readAt_eq_ld, View.ld_unit_zero h]

/-- The epilogue at one point: from the windows' blocks held, it leaves its operands as they were and its result block
    at the payload of them. -/
theorem body1 (c : Dev nD) (i : grid1.Coords) (M1 : Memref sig .tc .vmem S5000x64 .f32) (h1 : M1.IsWhole) (M2 : Memref sig .tc .vmem S50x1x64 .f32) (h2 : M2.IsWhole)
    (M3 : Memref sig .tc .vmem S50x1x64 .f32) (h3 : M3.IsWhole) (M4 : Memref sig .tc .vmem S1x64 .f32) (h4 : M4.IsWhole) (M5 : Memref sig .tc .vmem S1x64 .f32) (h5 : M5.IsWhole)
    (M6 : Memref sig .tc .vmem S5000x64 .f32) (h6 : M6.IsWhole)
    (X1 : Vec F S5000x64 .f32) (X2 X3 : Vec F S50x1x64 .f32) (X4 X5 : Vec F S1x64 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ (∃ d, owns (c : Thread nD τ) M6 fullShare d)
        ∗ ((owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare (k1_pay1 X2 X3 X4 X5 X1)) -∗ Q ⟨⟩))
      ⊢ wp frame (wpE (defs₀ (F := F)) Variants.none c none) E (cc1__epilogue_kernel i M1 h1 M2 h2 M3 h3 M4 h4 M5 h5 M6 h6) Q := by
  unfold owns
  iintro ⟨⟨%f1, %e1, H1⟩, ⟨%f2, %e2, H2⟩, ⟨%f3, %e3, H3⟩, ⟨%f4, %e4, H4⟩, ⟨%f5, %e5, H5⟩, ⟨%d, %f6, %e6, H6⟩, Hk⟩
  sl_unfold [cc1__epilogue_kernel]
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  iexists _; isplitr; swap; (· iexact H6)
  ipureintro
  rw [read_writes_whole hz2]
  rw [readAt_whole hz3, readAt_whole hz3, readAt_whole hz2, readAt_whole hz2, readAt_whole hz2, e1, e2, e3, e4, e5]

end Cert.KernelIdeal.Body

end
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Tactic
public import proofs.«01_k».proof.Proof.Body1
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The distances after the nineteen trips that each strike out every copy of a row's smallest entry. -/
def struck (d : FVec F S1000x1000 .f32) : FVec F S1000x1000 .f32 :=
  Scf.fold (fun (_ : Fin k0_t1_loop.trips) x => k0_pay5 x) d

/-- The state of the exact threshold loop after its twenty trips: what is left of the distances, how many
entries were struck out of each row, and the last minimum taken while fewer than twenty were. -/
def exact (d : FVec F S1000x1000 .f32) : FVec F S1000x1000 .f32 × FVec F S1000x1 .f32 × FVec F S1000x1 .f32 :=
  Scf.fold (fun (_ : Fin k0_t2_loop.trips) x => (k0_pay13 x.1, k0_pay12 x.1 x.2.1, k0_pay11 x.1 x.2.1 x.2.2)) (d, k0_pay8, k0_pay9)

/-- Whether some row lost more than nineteen entries, so that the first conditional takes its exact branch. -/
def needExact (d : FVec F S1000x1000 .f32) : BitVec 1 :=
  Scalar.cmpi .ne (Scalar.extui (Scalar.cmpf .ogt (k0_pay7 (struck d)) (Scalar.ofBits .f32 0x41980000#32)) : BitVec 32) 0#32

/-- The threshold of each row: the first conditional. -/
def thr (d : FVec F S1000x1000 .f32) : FVec F S1000x1 .f32 :=
  if needExact d = 1#1 then (exact d).2.2 else k0_pay6 (struck d)

/-- Whether some row has more than twenty entries at or below its threshold. -/
def overfull (d : FVec F S1000x1000 .f32) : BitVec 1 :=
  Scalar.cmpi .ne (Scalar.extui (Scalar.cmpf .ogt (k0_pay17 d (thr d)) (Scalar.ofBits .f32 0x41A00000#32)) : BitVec 32) 0#32

/-- Which entries equal to the threshold are kept: the second conditional. -/
def keep (d : FVec F S1000x1000 .f32) : FVec F S1000x1000 .f32 :=
  if overfull d = 1#1 then k0_pay18 d (thr d) else k0_pay19

/-- The second part of the graph kernel issues nothing: it is a return of these values. -/
theorem part2_eq (i : grid0.Coords) (arg1 : Memref sig .tc .vmem S1000x3 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1000x64 .f32) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1000x1000 .f32) (harg7 : arg7.IsWhole) (arg8 : Memref sig .tc .vmem S1000x64 .f32) (harg8 : arg8.IsWhole) (v11 v12 : FVec F S1000x64 .f32) (v23 : FVec F S1000x1000 .f32) :
    k0_part2 (F := F) i arg1 harg1 arg2 harg2 arg3 harg3 arg4 harg4 arg5 harg5 arg6 harg6 arg7 harg7 arg8 harg8 v11 v12 v23 (k0_pay6 (struck v23)) (k0_pay7 (struck v23))
      = .ret ⟨k0_pay20 v23 (thr v23) (keep v23), k0_pay21 v11 v23 (thr v23) (keep v23), k0_pay22 v11 v23 (thr v23) (keep v23), k0_pay23 v12, k0_pay24 v12, k0_pay25 v11 v23 (thr v23) (keep v23), k0_pay26⟩ := by
  rw [k0_part2_eq_skeleton]
  unfold k0_part2_skel
  have hl : Scf.Loop.for k0_t2_loop k0_t2_ok (v23, k0_pay8 (F := F), k0_pay9 (F := F)) (k0_t2_body i arg1 harg1 arg2 harg2 arg3 harg3 arg4 harg4 arg5 harg5 arg6 harg6 arg7 harg7 arg8 harg8 v11 v12 v23 (k0_pay6 (struck v23)) (k0_pay7 (struck v23))) = .ret (exact v23) :=
    Scf.for_pure _ _ _ _ _ _ _ (fun k acc => rfl)
  dsimp only
  rw [hl]
  unfold keep overfull thr needExact
  split <;> split <;> simp_all <;> rfl

/-- The rows `40 k … 40 k + 39` of a thousand-row array, as trip `k` of the last loop reads them. -/
def rowsA (k : Fin k0_t3_loop.trips) (a : Vec F S1000x1000 .f32) : Vec F S40x1000 .f32 :=
  View.ld a (Rect.unit (s := S1000x1000) (k0_off1 k) S40x1000.size (k0_off1_inb k))

/-- The same rows of a thousand-by-sixty-four array. -/
def rowsV (k : Fin k0_t3_loop.trips) (a : Vec F S1000x64 .f32) : Vec F S40x64 .f32 :=
  View.ld a (Rect.unit (s := S1000x64) (k0_off2 k) S40x64.size (k0_off2_inb k))

/-- The running maximum after the last loop, from the masked adjacency `a` and the query half `v`. -/
def segMax (a : Vec F S1000x1000 .f32) (v : Vec F S1000x64 .f32) : FVec F S64x1000 .f32 :=
  Scf.fold (fun k x => k0_pay32 x (rowsA k a) (rowsV k v)) k0_pay31

/-- The adjacency of a graph. -/
def adj (x1 : Vec F S1000x3 .f32) : FVec F S1000x1000 .f32 :=
  k0_pay20 (k0_pay4 x1) (thr (k0_pay4 x1)) (keep (k0_pay4 x1))

/-- The graph kernel's first result: the segment maximum plus the neighbour half. -/
def outW (x1 : Vec F S1000x3 .f32) (x2 : Vec F S8x64 .f32) (x3 : Vec F S1x64 .f32) : FVec F S1000x64 .f32 :=
  k0_pay33 (k0_pay2 x1 x2 x3) (segMax (k0_pay29 (adj x1)) (k0_pay30 (k0_pay3 x1 x2)))

/-- The graph kernel's second result: the sum of the pre-activations over the graph's edges. -/
def outS (x1 : Vec F S1000x3 .f32) (x2 : Vec F S8x64 .f32) (x3 : Vec F S1x64 .f32) : FVec F S1x1x64 .f32 :=
  k0_pay27 (k0_pay23 (k0_pay3 x1 x2)) (k0_pay25 (k0_pay2 x1 x2 x3) (k0_pay4 x1) (thr (k0_pay4 x1)) (keep (k0_pay4 x1))) k0_pay26

/-- The graph kernel's third result: the sum of their squares. -/
def outQ (x1 : Vec F S1000x3 .f32) (x2 : Vec F S8x64 .f32) (x3 : Vec F S1x64 .f32) : FVec F S1x1x64 .f32 :=
  k0_pay28 (k0_pay3 x1 x2) (k0_pay21 (k0_pay2 x1 x2 x3) (k0_pay4 x1) (thr (k0_pay4 x1)) (keep (k0_pay4 x1)))
    (k0_pay22 (k0_pay2 x1 x2 x3) (k0_pay4 x1) (thr (k0_pay4 x1)) (keep (k0_pay4 x1))) (k0_pay24 (k0_pay3 x1 x2))

/-- A left fold over all indices below `n`, by the recursion that applies the step at each index in turn. -/
theorem foldl_eq_rec {α : Type} (n : ℕ) (g : Fin n → α → α) (s : ℕ → α) (hs : ∀ k : Fin n, s (k.val + 1) = g k (s k.val)) :
    s n = (List.finRange n).foldl (fun x k => g k x) (s 0) := by
  induction n generalizing s with
  | zero => rfl
  | succ n ih =>
    rw [List.finRange_succ_last, List.foldl_append, List.foldl_map]
    have := ih (fun k => g k.castSucc) s (fun k => hs k.castSucc)
    rw [← this]
    exact hs (Fin.last n)

/-- What one trip of the last loop returns. -/
theorem tripR_eq (c : Dev nD) (i : grid0.Coords) (arg1 : Memref sig .tc .vmem S1000x3 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1000x64 .f32) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1000x1000 .f32) (harg7 : arg7.IsWhole) (arg8 : Memref sig .tc .vmem S1000x64 .f32) (harg8 : arg8.IsWhole) (X7 : BufTy.Contents (Elt F) arg7.view.ty) (X8 : BufTy.Contents (Elt F) arg8.view.ty) (k : Fin k0_t3_loop.trips) (acc : FVec F S64x1000 .f32) :
    tripR_k0_t3 (F := F) Variants.none c none i arg1 harg1 arg2 harg2 arg3 harg3 arg4 harg4 arg5 harg5 arg6 harg6 arg7 harg7 arg8 harg8 X7 X8 k acc
      = k0_pay32 acc (rowsA k (arg7.view.read (Elt F) X7)) (rowsV k (arg8.view.read (Elt F) X8)) := by
  unfold tripR_k0_t3 trip_k0_t3
  rfl

/-- What the last loop carries at its end. -/
theorem st_eq (c : Dev nD) (i : grid0.Coords) (arg1 : Memref sig .tc .vmem S1000x3 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1000x64 .f32) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1000x1000 .f32) (harg7 : arg7.IsWhole) (arg8 : Memref sig .tc .vmem S1000x64 .f32) (harg8 : arg8.IsWhole) (X7 : BufTy.Contents (Elt F) arg7.view.ty) (X8 : BufTy.Contents (Elt F) arg8.view.ty) :
    st_k0_t3 (F := F) Variants.none c none i arg1 harg1 arg2 harg2 arg3 harg3 arg4 harg4 arg5 harg5 arg6 harg6 arg7 harg7 arg8 harg8 X7 X8 k0_pay31 (Scf.trips k0_t3_loop.lb k0_t3_loop.ub k0_t3_loop.st)
      = segMax (arg7.view.read (Elt F) X7) (arg8.view.read (Elt F) X8) := by
  unfold segMax
  rw [Scf.fold_eq]
  exact foldl_eq_rec k0_t3_loop.trips (fun k x => k0_pay32 x (rowsA k (arg7.view.read (Elt F) X7)) (rowsV k (arg8.view.read (Elt F) X8)))
    (st_k0_t3 (F := F) Variants.none c none i arg1 harg1 arg2 harg2 arg3 harg3 arg4 harg4 arg5 harg5 arg6 harg6 arg7 harg7 arg8 harg8 X7 X8 k0_pay31)
    (fun k => (st_k0_t3_succ ..).trans (tripR_eq ..))

/-- A program may be replaced by an equal one. -/
theorem wp_of_eq {c : Dev nD} {E : Set ℕ} {α : Type} {p q : Prog (TpuEff nD τ sig (Elt F) Λ₀ .tc) α} {Q : α → sProp 𝕄} (h : p = q) :
    wp frame (wpE (defs₀ (F := F)) Variants.none (c : Thread nD τ) none) E q Q ⊢ wp frame (wpE (defs₀ (F := F)) Variants.none (c : Thread nD τ) none) E p Q := by
  subst h; exact .rfl

/-- The graph kernel's body: from its inputs it writes its three results, and leaves its scratch at some contents. -/
theorem body0 (c : Dev nD) (i : grid0.Coords) (M1 : Memref sig .tc .vmem S1000x3 .f32) (h1 : M1.IsWhole) (M2 : Memref sig .tc .vmem S8x64 .f32) (h2 : M2.IsWhole) (M3 : Memref sig .tc .vmem S1x64 .f32) (h3 : M3.IsWhole) (M4 : Memref sig .tc .vmem S1000x64 .f32) (h4 : M4.IsWhole) (M5 : Memref sig .tc .vmem S1x1x64 .f32) (h5 : M5.IsWhole) (M6 : Memref sig .tc .vmem S1x1x64 .f32) (h6 : M6.IsWhole) (M7 : Memref sig .tc .vmem S1000x1000 .f32) (h7 : M7.IsWhole) (M8 : Memref sig .tc .vmem S1000x64 .f32) (h8 : M8.IsWhole)
    (X1 : Vec F S1000x3 .f32) (X2 : Vec F S8x64 .f32) (X3 : Vec F S1x64 .f32) (E : Set ℕ) (Q : PUnit → sProp 𝕄) :
    iprop(owns (c : Thread nD τ) M1 fullShare X1 ∗ owns (c : Thread nD τ) M2 fullShare X2 ∗ owns (c : Thread nD τ) M3 fullShare X3 ∗ (∃ d, owns (c : Thread nD τ) M4 fullShare d) ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d)
        ∗ ((owns (c : Thread nD τ) M1 fullShare X1 ∗ owns (c : Thread nD τ) M2 fullShare X2 ∗ owns (c : Thread nD τ) M3 fullShare X3 ∗ owns (c : Thread nD τ) M4 fullShare (outW X1 X2 X3) ∗ owns (c : Thread nD τ) M5 fullShare (outS X1 X2 X3) ∗ owns (c : Thread nD τ) M6 fullShare (outQ X1 X2 X3) ∗ (∃ d, owns (c : Thread nD τ) M7 fullShare d) ∗ (∃ d, owns (c : Thread nD τ) M8 fullShare d)) -∗ Q ⟨⟩))
      ⊢ wp frame (wpE (defs₀ (F := F)) Variants.none c none) E (cc0__graph_kernel i M1 h1 M2 h2 M3 h3 M4 h4 M5 h5 M6 h6 M7 h7 M8 h8) Q := by
  unfold owns
  iintro ⟨⟨%f1, %e1, H1⟩, ⟨%f2, %e2, H2⟩, ⟨%f3, %e3, H3⟩, ⟨%d4, %f4, %e4, H4⟩, ⟨%d5, %f5, %e5, H5⟩, ⟨%d6, %f6, %e6, H6⟩, ⟨%d7, %f7, %e7, H7⟩, ⟨%d8, %f8, %e8, H8⟩, Hk⟩
  sl_unfold [cc0__graph_kernel]
  sl_exec
  have hp := part2_eq i M1 h1 M2 h2 M3 h3 M4 h4 M5 h5 M6 h6 M7 h7 M8 h8 (body0.sl.r_1 c M1 M2 M3 f1 f2 f3) (body0.sl.r_2 c M1 M2 f1 f2) (body0.sl.r_3 c M1 f1)
  iapply (wp_of_eq hp)
  sl_exec
  sl_step
  iapply Hk
  have r1 : body0.sl.r_1 c M1 M2 M3 f1 f2 f3 = k0_pay2 X1 X2 X3 := by
    sl_unfold_words; rw [readAt_whole hz2, readAt_whole hz2, readAt_whole hz2, e1, e2, e3]
  have r2 : body0.sl.r_2 c M1 M2 f1 f2 = k0_pay3 X1 X2 := by
    sl_unfold_words; rw [readAt_whole hz2, readAt_whole hz2, e1, e2]
  have r3 : body0.sl.r_3 c M1 f1 = k0_pay4 X1 := by
    sl_unfold_words; rw [readAt_whole hz2, e1]
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]
  · iexists _; isplitr; swap; (· iexact H4)
    ipureintro
    rw [read_writes_whole hz2, st_eq]
    unfold body0.sl.H7_1 body0.sl.H8_1
    unfold body0.sl.r_6
    rw [read_writes_whole hz2, read_writes_whole hz2, r1, r2, r3]; rfl
  isplitl [H5]
  · iexists _; isplitr; swap; (· iexact H5)
    ipureintro
    unfold body0.sl.H5_1
    rw [read_writes_whole hz3]
    unfold body0.sl.r_9 body0.sl.r_11
    rw [r1, r2, r3]; rfl
  isplitl [H6]
  · iexists _; isplitr; swap; (· iexact H6)
    ipureintro
    unfold body0.sl.H6_1
    rw [read_writes_whole hz3]
    unfold body0.sl.r_7 body0.sl.r_8 body0.sl.r_10
    rw [r1, r2, r3]; rfl
  isplitl [H7]
  · iexists _, _; isplitr; swap; (· iexact H7)
    ipureintro; rfl
  · iexists _, _; isplitr; swap; (· iexact H8)
    ipureintro; rfl

end Cert.KernelIdeal.Body

end
-- ==== Proof.Regs.lean ====
module

public import proofs.«01_k».proof.Proof.Body0
public import proofs.«01_k».proof.Proof.Gen.KernelIdeal.Regions
public import Idealize.ShloMosaic.Lib.Pipeline.FrameTail

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The proof data of the two calls, from the buffers at the call's entry -/

/-- The block of input 0 that grid point `t` of the first call works on. -/
def blk0_0 (V : Valuation τ sig (Elt F)) (t : Fin cfg0.N) : Vec F S1000x3 .f32 :=
  ((cfg0.win 0).blk t).view.read (Elt F) (V (Proc.devRef .tc (Pipeline.arrRef spec0 0)))

/-- The block of input 1 that grid point `t` of the first call works on. -/
def blk0_1 (V : Valuation τ sig (Elt F)) (t : Fin cfg0.N) : Vec F S8x64 .f32 :=
  ((cfg0.win 1).blk t).view.read (Elt F) (V (Proc.devRef .tc (Pipeline.arrRef spec0 1)))

/-- The block of input 2 that grid point `t` of the first call works on. -/
def blk0_2 (V : Valuation τ sig (Elt F)) (t : Fin cfg0.N) : Vec F S1x64 .f32 :=
  ((cfg0.win 2).blk t).view.read (Elt F) (V (Proc.devRef .tc (Pipeline.arrRef spec0 2)))

/-- The block of input 0 that grid point `t` of the second call works on. -/
def blk1_0 (V : Valuation τ sig (Elt F)) (t : Fin cfg1.N) : Vec F S5000x64 .f32 :=
  ((cfg1.win 0).blk t).view.read (Elt F) (V (Proc.devRef .tc (Pipeline.arrRef spec1 0)))

/-- The block of input 1 that grid point `t` of the second call works on. -/
def blk1_1 (V : Valuation τ sig (Elt F)) (t : Fin cfg1.N) : Vec F S50x1x64 .f32 :=
  ((cfg1.win 1).blk t).view.read (Elt F) (V (Proc.devRef .tc (Pipeline.arrRef spec1 1)))

/-- The block of input 2 that grid point `t` of the second call works on. -/
def blk1_2 (V : Valuation τ sig (Elt F)) (t : Fin cfg1.N) : Vec F S50x1x64 .f32 :=
  ((cfg1.win 2).blk t).view.read (Elt F) (V (Proc.devRef .tc (Pipeline.arrRef spec1 2)))

/-- The block of input 3 that grid point `t` of the second call works on. -/
def blk1_3 (V : Valuation τ sig (Elt F)) (t : Fin cfg1.N) : Vec F S1x64 .f32 :=
  ((cfg1.win 3).blk t).view.read (Elt F) (V (Proc.devRef .tc (Pipeline.arrRef spec1 3)))

/-- The block of input 4 that grid point `t` of the second call works on. -/
def blk1_4 (V : Valuation τ sig (Elt F)) (t : Fin cfg1.N) : Vec F S1x64 .f32 :=
  ((cfg1.win 4).blk t).view.read (Elt F) (V (Proc.devRef .tc (Pipeline.arrRef spec1 4)))

/-- The first call: its inputs stay as they are, its results are the body's. -/
def dat0 (V : Dev nD → Valuation τ sig (Elt F)) (c : Dev nD) : Dat τ (Elt F) Unit ℕ (UR sig nD τ) ℕ cfg0 c where
  A w := V c (Proc.devRef .tc (Pipeline.arrRef spec0 w))
  after w t := match w with
    | ⟨0, _⟩ => blk0_0 (V c) t
    | ⟨1, _⟩ => blk0_1 (V c) t
    | ⟨2, _⟩ => blk0_2 (V c) t
    | ⟨3, _⟩ => outW (blk0_0 (V c) t) (blk0_1 (V c) t) (blk0_2 (V c) t)
    | ⟨4, _⟩ => outS (blk0_0 (V c) t) (blk0_1 (V c) t) (blk0_2 (V c) t)
    | ⟨5, _⟩ => outQ (blk0_0 (V c) t) (blk0_1 (V c) t) (blk0_2 (V c) t)
  Φ _ := Pipeline.ΦA spec0 c
  q _ := fullShare
  owed _ := 0

/-- The second call likewise. -/
def dat1 (V : Dev nD → Valuation τ sig (Elt F)) (c : Dev nD) : Dat τ (Elt F) Unit ℕ (UR sig nD τ) ℕ cfg1 c where
  A w := V c (Proc.devRef .tc (Pipeline.arrRef spec1 w))
  after w t := match w with
    | ⟨0, _⟩ => blk1_0 (V c) t
    | ⟨1, _⟩ => blk1_1 (V c) t
    | ⟨2, _⟩ => blk1_2 (V c) t
    | ⟨3, _⟩ => blk1_3 (V c) t
    | ⟨4, _⟩ => blk1_4 (V c) t
    | ⟨5, _⟩ => k1_pay1 (blk1_1 (V c) t) (blk1_2 (V c) t) (blk1_3 (V c) t) (blk1_4 (V c) t) (blk1_0 (V c) t)
  Φ _ := Pipeline.ΦA spec1 c
  q _ := fullShare
  owed _ := 0

theorem before0_0 (V : Dev nD → Valuation τ sig (Elt F)) (c : Dev nD) (t : Fin cfg0.N) (d) : (dat0 V c).before 0 t d = blk0_0 (V c) t :=
  ((dat0 V c).before_in_eq_fetched 0 rfl (fun _ => rfl) (fun _ _ _ => rfl) (fun _ => by unfold Dat.blockOf dat0 blk0_0; rfl) t d).trans (by unfold Dat.fetched Dat.blockOf dat0 blk0_0; rfl)
theorem before0_1 (V : Dev nD → Valuation τ sig (Elt F)) (c : Dev nD) (t : Fin cfg0.N) (d) : (dat0 V c).before 1 t d = blk0_1 (V c) t :=
  ((dat0 V c).before_in_eq_fetched 1 rfl (fun _ => rfl) (fun _ _ _ => rfl) (fun _ => by unfold Dat.blockOf dat0 blk0_1; rfl) t d).trans (by unfold Dat.fetched Dat.blockOf dat0 blk0_1; rfl)
theorem before0_2 (V : Dev nD → Valuation τ sig (Elt F)) (c : Dev nD) (t : Fin cfg0.N) (d) : (dat0 V c).before 2 t d = blk0_2 (V c) t :=
  ((dat0 V c).before_in_eq_fetched 2 rfl (fun _ => rfl) (fun _ _ _ => rfl) (fun _ => by unfold Dat.blockOf dat0 blk0_2; rfl) t d).trans (by unfold Dat.fetched Dat.blockOf dat0 blk0_2; rfl)
theorem before1_0 (V : Dev nD → Valuation τ sig (Elt F)) (c : Dev nD) (t : Fin cfg1.N) (d) : (dat1 V c).before 0 t d = blk1_0 (V c) t :=
  ((dat1 V c).before_in_eq_fetched 0 rfl (fun _ => rfl) (fun _ _ _ => rfl) (fun _ => by unfold Dat.blockOf dat1 blk1_0; rfl) t d).trans (by unfold Dat.fetched Dat.blockOf dat1 blk1_0; rfl)
theorem before1_1 (V : Dev nD → Valuation τ sig (Elt F)) (c : Dev nD) (t : Fin cfg1.N) (d) : (dat1 V c).before 1 t d = blk1_1 (V c) t :=
  ((dat1 V c).before_in_eq_fetched 1 rfl (fun _ => rfl) (fun _ _ _ => rfl) (fun _ => by unfold Dat.blockOf dat1 blk1_1; rfl) t d).trans (by unfold Dat.fetched Dat.blockOf dat1 blk1_1; rfl)
theorem before1_2 (V : Dev nD → Valuation τ sig (Elt F)) (c : Dev nD) (t : Fin cfg1.N) (d) : (dat1 V c).before 2 t d = blk1_2 (V c) t :=
  ((dat1 V c).before_in_eq_fetched 2 rfl (fun _ => rfl) (fun _ _ _ => rfl) (fun _ => by unfold Dat.blockOf dat1 blk1_2; rfl) t d).trans (by unfold Dat.fetched Dat.blockOf dat1 blk1_2; rfl)
theorem before1_3 (V : Dev nD → Valuation τ sig (Elt F)) (c : Dev nD) (t : Fin cfg1.N) (d) : (dat1 V c).before 3 t d = blk1_3 (V c) t :=
  ((dat1 V c).before_in_eq_fetched 3 rfl (fun _ => rfl) (fun _ _ _ => rfl) (fun _ => by unfold Dat.blockOf dat1 blk1_3; rfl) t d).trans (by unfold Dat.fetched Dat.blockOf dat1 blk1_3; rfl)
theorem before1_4 (V : Dev nD → Valuation τ sig (Elt F)) (c : Dev nD) (t : Fin cfg1.N) (d) : (dat1 V c).before 4 t d = blk1_4 (V c) t :=
  ((dat1 V c).before_in_eq_fetched 4 rfl (fun _ => rfl) (fun _ _ _ => rfl) (fun _ => by unfold Dat.blockOf dat1 blk1_4; rfl) t d).trans (by unfold Dat.fetched Dat.blockOf dat1 blk1_4; rfl)

/-- The first call's body at every grid point. -/
theorem obligation0 (V : Dev nD → Valuation τ sig (Elt F)) (c : Dev nD) : BodyObligation (dat0 V c) (defs₀ (F := F)) Variants.none () Set.univ := fun t => by
  rw [bigSep_W0, bigSep_W0]
  rw [show (dat0 V c).Φ t.castSucc = Pipeline.ΦA spec0 c from rfl, show (dat0 V c).Φ t.succ = Pipeline.ΦA spec0 c from rfl,
    show (dat0 V c).owesAt () t.succ = (dat0 V c).owesAt () t.castSucc from rfl]
  unfold Pipeline.ΦA
  rw [scopedRest0_eq]
  simp only [before0_0, before0_1, before0_2]
  iintro ⟨⟨⟨⟨%s0, S0⟩, ⟨%s1, S1⟩, HR⟩, HP⟩, Howes, ⟨%d0, H0⟩, ⟨%d1, H1⟩, ⟨%d2, H2⟩, ⟨%d3, H3⟩, ⟨%d4, H4⟩, ⟨%d5, H5⟩⟩
  iapply (body0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (blk0_0 (V c) t) (blk0_1 (V c) t) (blk0_2 (V c) t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [S0]; · iexists _; rw [owns_whole_eq]; iexists s0; isplitr; swap; (· iexact S0); ipureintro; rfl
  isplitl [S1]; · iexists _; rw [owns_whole_eq]; iexists s1; isplitr; swap; (· iexact S1); ipureintro; rfl
  simp only [owns_whole_eq]
  iintro ⟨H0, H1, H2, H3, H4, H5, ⟨%e0, %g0, -, S0⟩, ⟨%e1, %g1, -, S1⟩⟩
  isplitl [S0 S1 HR HP]
  · isplitl [S0 S1 HR]
    · isplitl [S0]; · iexists _; iexact S0
      isplitl [S1]; · iexists _; iexact S1
      iexact HR
    · iexact HP
  isplitl [Howes]; · iexact Howes
  isplitl [H0]; · iexact H0
  isplitl [H1]; · iexact H1
  isplitl [H2]; · iexact H2
  isplitl [H3]; · iexact H3
  isplitl [H4]; · iexact H4
  iexact H5

/-- The second call's body at every grid point. -/
theorem obligation1 (V : Dev nD → Valuation τ sig (Elt F)) (c : Dev nD) : BodyObligation (dat1 V c) (defs₀ (F := F)) Variants.none () Set.univ := fun t => by
  rw [bigSep_W1, bigSep_W1]
  rw [show (dat1 V c).Φ t.castSucc = Pipeline.ΦA spec1 c from rfl, show (dat1 V c).Φ t.succ = Pipeline.ΦA spec1 c from rfl,
    show (dat1 V c).owesAt () t.succ = (dat1 V c).owesAt () t.castSucc from rfl]
  simp only [before1_0, before1_1, before1_2, before1_3, before1_4]
  iintro ⟨HΦ, Howes, ⟨%d0, H0⟩, ⟨%d1, H1⟩, ⟨%d2, H2⟩, ⟨%d3, H3⟩, ⟨%d4, H4⟩, ⟨%d5, H5⟩⟩
  iapply (body1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (blk1_0 (V c) t) (blk1_1 (V c) t) (blk1_2 (V c) t) (blk1_3 (V c) t) (blk1_4 (V c) t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## The calls as segments of the whole program -/

/-- No level is assigned: no core owes another anything. -/
abbrev L : GSem nD τ sig → Finset Unit := fun _ => ∅
/-- The level of a unit, never asked for. -/
abbrev lv : GSem nD τ sig → Unit → ℕ := fun _ _ => 0

/-- What rides beside the buffers between the calls: the generator register, and the core owing nothing. -/
abbrev beside (c : Dev nD) : sProp 𝕄 := iprop((∃ r, prngReg c r) ∗ ∃ W, owes (c.tc : Thread nD τ) (0 : CellTallies nD τ sig Unit) W)

set_option backward.isDefEq.respectTransparency.types false in
/-- One call as a segment, entered with every buffer at `V` and left with every buffer at `V'`, which has each window's
array at what the call leaves there and every other buffer as in `V`. -/
def reg (p : Fin 2) (kit : Pipeline.LaunchFacts (nD := nD) (τ := τ) cfgs p) (dats : (p : Fin 2) → (c : Dev nD) → Dat τ (Elt F) Unit ℕ (UR sig nD τ) ℕ (cfgs p) c)
    (V V' : Dev nD → Valuation τ sig (Elt F))
    (hbody : ∀ c, BodyObligation (dats p c) (defs₀ (F := F)) Variants.none () Set.univ)
    (hshare : ∀ c w, (dats p c).share w = fullShare) (howed : ∀ c t, (dats p c).owed t = 0) (hrec : ∀ c, (dats p c).recorded 0 = Set.univ)
    (hA : ∀ c w, (dats p c).A w = V c (Proc.devRef .tc (Pipeline.arrRef (cfgs p).spec w)))
    (hΦ : ∀ c t, (dats p c).Φ t = Pipeline.ΦA (cfgs p).spec c)
    (harr : ∀ c w, (dats p c).arrAt w (cfgs p).N = V' c (Proc.devRef .tc (Pipeline.arrRef (cfgs p).spec w)))
    (hrest : ∀ c (b : Ref sig .tc), (∀ w, b ≠ Pipeline.arrRef (cfgs p).spec w) → V' c (Proc.devRef .tc b) = V c (Proc.devRef .tc b)) :
    Pipeline.RegionSeg (pcfgs (F := F)) adm dats () (defs₀ (F := F)) Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c.tc : Thread nD τ) (Pipeline.ucRefs τ sig) (V c) ∗ beside c)
  post c := iprop(StableHlo.held (c.tc : Thread nD τ) (Pipeline.ucRefs τ sig) (V' c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => V c (Proc.devRef .tc b))
  hentry c := by
    rw [Pipeline.ownSems0_none,
      show StableHlo.held (c.tc : Thread nD τ) (Pipeline.ucRefs τ sig) (V c) = unscopedBufs c (fun b => V c (Proc.devRef .tc b))
        from (Pipeline.unscopedBufs_held (Ix := Unit) (Name := ℕ) (U := UR sig nD τ) (Lvl := ℕ) c (V c)).symm]
    have hsplit := Pipeline.arrays_of_unscopedBufs (p := p) (pcfgs (F := F)) adm dats kit.win kit.arr_whole c (hshare c)
      (fun b => V c (Proc.devRef .tc b)) (fun w => hA c w)
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ c]; unfold Pipeline.ΦA; iintro ⟨Hp, -, Hr⟩
    isplitl [Hr] <;> iassumption
  hout c := by
    rw [hΦ c, Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c dats (hshare c)
      (fun b => V c (Proc.devRef .tc b)) (fun b => V' c (Proc.devRef .tc b)) ((dats p c).arrAt · (cfgs p).N)
      (fun w => harr c w)
      (fun b hb => hrest c b fun w h => hb (h ▸ Finset.mem_image.mpr ⟨w, Finset.mem_univ _, rfl⟩))
    rw [show StableHlo.held (c.tc : Thread nD τ) (Pipeline.ucRefs τ sig) (V' c) = unscopedBufs c (fun b => V' c (Proc.devRef .tc b))
        from (Pipeline.unscopedBufs_held (Ix := Unit) (Name := ℕ) (U := UR sig nD τ) (Lvl := ℕ) c (V' c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

end Cert.KernelIdeal.Body

end
-- ==== Proof.Run.lean ====
module

public import proofs.«01_k».proof.Proof.Regs

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- What the first call leaves in every buffer. -/
def outs4 : Outs (F := F) := fun _ r c => Pipeline.afterRegion (dat0 (V3 m) c) (V3 m c) (Proc.devRef .tc r)

/-- What the calls leave: the first at 4, the second after. -/
def outs : Outs (F := F) := fun n r c => if n = 4 then outs4 m n r c else
  Pipeline.afterRegion (dat1 (V5 m (outs4 m)) c) (V5 m (outs4 m) c) (Proc.devRef .tc r)

/-- Before the second call the buffers are the first call's. -/
theorem V5_outs : V5 m (outs m) = V5 m (outs4 m) := rfl

/-- The first call's first result after the call. -/
theorem V4_at0 (o : Outs (F := F)) (c : Dev nD) : V4 m o c main_v2_0 = o 4 main_v2_0 c := by
  simp only [V4, Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_1), Function.update_self]
/-- The first call's second result after the call. -/
theorem V4_at1 (o : Outs (F := F)) (c : Dev nD) : V4 m o c main_v2_1 = o 4 main_v2_1 c := by
  simp only [V4, Function.update_of_ne (StableHlo.devRef_ne_of_ne (by decide) : (Proc.devRef .tc main_v2_1 : DevRef τ sig) ≠ Proc.devRef .tc main_v2_2), Function.update_self]
/-- The first call's third result after the call. -/
theorem V4_at2 (o : Outs (F := F)) (c : Dev nD) : V4 m o c main_v2_2 = o 4 main_v2_2 c := by
  simp only [V4, Function.update_self]

/-- The second call's result after the call. -/
theorem V6_at (o : Outs (F := F)) (c : Dev nD) : V6 m o c main_v5 = o 6 main_v5 c := by
  simp only [V6, Function.update_self]

/-- The proof data of both calls. -/
def dats : (p : Fin 2) → (c : Dev nD) → Dat τ (Elt F) Unit ℕ (UR sig nD τ) ℕ (cfgs p) c
  | ⟨0, _⟩ => dat0 (V3 m)
  | ⟨1, _⟩ => dat1 (V5 m (outs m))

set_option backward.isDefEq.respectTransparency.types false in
/-- The first call as a segment. -/
def reg0 : RegionSeg (pcfgs (F := F)) adm (dats m) () (defs₀ (F := F)) Variants.none L lv 0 :=
  reg 0 launch0 (dats m) (V3 m) (V4 m (outs m)) (fun c => obligation0 (V3 m) c) (fun c => (dats m 0 c).share_full fun _ => rfl)
    (fun _ _ => rfl) (fun _ => rfl) (fun _ _ => rfl) (fun _ _ => rfl)
    (fun c w => by
      have h := Pipeline.afterRegion_arr (dat0 (V3 m) c) (V3 m c) (launch0 : Pipeline.LaunchFacts (nD := nD) (τ := τ) cfgs 0).win.arr_inj
      fin_cases w
      · exact ((dat0 (V3 m) c).arrAt_in 0 rfl _).trans (V4_of m (outs m) c main_arg0 (by decide)).symm
      · exact ((dat0 (V3 m) c).arrAt_in 1 rfl _).trans (V4_of m (outs m) c main_v0 (by decide)).symm
      · exact ((dat0 (V3 m) c).arrAt_in 2 rfl _).trans (V4_of m (outs m) c main_v1 (by decide)).symm
      · exact (h 3).symm.trans (V4_at0 m (outs m) c).symm
      · exact (h 4).symm.trans (V4_at1 m (outs m) c).symm
      · exact (h 5).symm.trans (V4_at2 m (outs m) c).symm)
    (fun c b hb => V4_of m (outs m) c b (by
      intro hm
      simp only [List.mem_cons, List.not_mem_nil, _root_.or_false] at hm
      rcases hm with rfl | rfl | rfl
      · exact hb 3 rfl
      · exact hb 4 rfl
      · exact hb 5 rfl))

set_option backward.isDefEq.respectTransparency.types false in
/-- The second call as a segment. -/
def reg1 : RegionSeg (pcfgs (F := F)) adm (dats m) () (defs₀ (F := F)) Variants.none L lv 1 :=
  reg 1 launch1 (dats m) (V5 m (outs m)) (V6 m (outs m)) (fun c => obligation1 (V5 m (outs m)) c) (fun c => (dats m 1 c).share_full fun _ => rfl)
    (fun _ _ => rfl) (fun _ => rfl) (fun _ _ => rfl) (fun _ _ => rfl)
    (fun c w => by
      have h := Pipeline.afterRegion_arr (dat1 (V5 m (outs m)) c) (V5 m (outs m) c) (launch1 : Pipeline.LaunchFacts (nD := nD) (τ := τ) cfgs 1).win.arr_inj
      fin_cases w
      · exact ((dat1 (V5 m (outs m)) c).arrAt_in 0 rfl _).trans (V6_of m (outs m) c main_v2_0 (by decide)).symm
      · exact ((dat1 (V5 m (outs m)) c).arrAt_in 1 rfl _).trans (V6_of m (outs m) c main_v2_1 (by decide)).symm
      · exact ((dat1 (V5 m (outs m)) c).arrAt_in 2 rfl _).trans (V6_of m (outs m) c main_v2_2 (by decide)).symm
      · exact ((dat1 (V5 m (outs m)) c).arrAt_in 3 rfl _).trans (V6_of m (outs m) c main_v3 (by decide)).symm
      · exact ((dat1 (V5 m (outs m)) c).arrAt_in 4 rfl _).trans (V6_of m (outs m) c main_v4 (by decide)).symm
      · exact (h 5).symm.trans (V6_at m (outs m) c).symm)
    (fun c b hb => V6_of m (outs m) c b (by
      intro hm
      simp only [List.mem_cons, List.not_mem_nil, _root_.or_false] at hm
      rcases hm with rfl
      exact hb 5 rfl))

/-- What the program leaves in its result: the second call's result array. -/
def result (c : Dev nD) : Buf (Elt F) ((c : Thread nD τ).loc main_v5) := (dat1 (V5 m (outs m)) c).arrAt 5 cfg1.N

/-- At the end the result's buffer holds it. -/
theorem V6_result (c : Dev nD) : V6 m (outs m) c main_v5 = result m c :=
  (V6_at m (outs m) c).trans
    (Pipeline.afterRegion_arr (dat1 (V5 m (outs m)) c) (V5 m (outs m) c) (launch1 : Pipeline.LaunchFacts (nD := nD) (τ := τ) cfgs 1).win.arr_inj 5)

variable (ρ : Dev nD → PrngReg)

set_option backward.isDefEq.respectTransparency.types false in
/-- Every run of the program ends, leaves its result at `result`, its arguments as launched and every counter at zero. -/
theorem run : θ_run defs (onTc (τ := τ) (main (F := F))) ⟨m, fun _ => 0, ρ⟩ (fun r => (∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (dats m) () cellOf_inj emb₁ defs₀ Variants.none L lv m ρ main
    (segs m (outs m) Variants.none L lv (fun _ => beside) () (dats m) (reg0 m) (reg1 m))
    (fun c Q => by
      rewrite [main_chain c, Seg.run_eq_chain,
        show (segs m (outs m) Variants.none L lv (fun _ => beside) () (dats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := fun _ => 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ beside c))
    (Tₙ := fun c => StableHlo.held (c.tc : Thread nD τ) (Pipeline.ucRefs τ sig) (V6 m (outs m) c))
    (hch := fun c => ⟨.rfl, .rfl, .rfl, .rfl, .rfl, .rfl, (show iprop(StableHlo.held (c.tc : Thread nD τ) (Pipeline.ucRefs τ sig) (V6 m (outs m) c)
          ∗ (∃ r, prngReg c r) ∗ ∃ W, owes (c.tc : Thread nD τ) (0 : CellTallies nD τ sig Unit) W) ⊢ (iprop(StableHlo.held (c.tc : Thread nD τ) (Pipeline.ucRefs τ sig) (V6 m (outs m) c) ∗ ∃ W, owes (c.tc : Thread nD τ) (0 : CellTallies nD τ sig Unit) W) : sProp 𝕄) from by
        iintro ⟨Hh, -, HO⟩
        isplitl [Hh] <;> iassumption)⟩)
    (hinit := Pipeline.initEach L lv fun c => by
      rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists _; iexact HO)
    (QY := fun c s => s.mem ((c.tc : Thread nD τ).loc main_v5) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨(h (Proc.devRef .tc main_v5) (Pipeline.devRef_mem_ucRefs (by decide))).trans (V6_result m c),
      (h (Proc.devRef .tc main_arg0) (Pipeline.devRef_mem_ucRefs (by decide))).trans (V6_main_arg0 m (outs m) c),
      (h (Proc.devRef .tc main_arg1) (Pipeline.devRef_mem_ucRefs (by decide))).trans (V6_main_arg1 m (outs m) c),
      (h (Proc.devRef .tc main_arg2) (Pipeline.devRef_mem_ucRefs (by decide))).trans (V6_main_arg2 m (outs m) c),
      (h (Proc.devRef .tc main_arg3) (Pipeline.devRef_mem_ucRefs (by decide))).trans (V6_main_arg3 m (outs m) c),
      (h (Proc.devRef .tc main_arg4) (Pipeline.devRef_mem_ucRefs (by decide))).trans (V6_main_arg4 m (outs m) c),
      (h (Proc.devRef .tc main_arg5) (Pipeline.devRef_mem_ucRefs (by decide))).trans (V6_main_arg5 m (outs m) c)⟩
  · iexact HSI

end Cert.KernelIdeal.Body

end
-- ==== Proof.Arrays.lean ====
module

public import proofs.«01_k».proof.Proof.Run
public import Idealize.ShloMosaic.Lib.Pointwise

@[expose] public section

set_option maxRecDepth 16384

/-! # The two calls' results as whole arrays -/

noncomputable section

namespace Cert.Arrays

open Cert.KernelIdeal Cert.KernelIdeal.Gen Cert.KernelIdeal.Body
open Idealize.ShloMosaic Idealize.ShloMosaic.TcCoe

variable {F : FTy → Type} [FloatOps F] [Named F]

/-! ## Where the blocks lie -/

/-- Where the blocks of window 0 of call 0 start. -/
theorem idx0_0 : ∀ t : Fin cfg0.N, win0_0.index t (0 : Fin 2) = t.val ∧ win0_0.index t (1 : Fin 2) = 0 :=
  (by decide +kernel : ∀ t : Fin grid0.N, _)

theorem row0_0 (t : Fin cfg0.N) (q : Fin 1000) : t.val * 1000 + q.val < 50000 := by
  have h1 : t.val < 50 := t.isLt
  have h2 := q.isLt
  omega

/-- An entry of a block of window 0 of call 0 in its array. -/
theorem emb0_0 (t : Fin cfg0.N) (j : S1000x3.Idx) : ((cfg0.win 0).blk t).view.emb j = (ix2 ⟨t.val * 1000 + (j 0).val, row0_0 t (j 0)⟩ (j 1) : S50000x3.Idx) := by
  obtain ⟨e0, e1⟩ := idx0_0 t
  funext a; apply Fin.ext
  match a with
  | ⟨0, _⟩ => show win0_0.index t (0 : Fin 2) * 1000 + 1 * (j 0).val = t.val * 1000 + (j 0).val; rw [e0]; omega
  | ⟨1, _⟩ => show win0_0.index t (1 : Fin 2) * 3 + 1 * (j 1).val = (j 1).val; rw [e1]; omega

/-- Where the blocks of window 1 of call 0 start. -/
theorem idx0_1 : ∀ t : Fin cfg0.N, win0_1.index t (0 : Fin 2) = 0 ∧ win0_1.index t (1 : Fin 2) = 0 :=
  (by decide +kernel : ∀ t : Fin grid0.N, _)

/-- An entry of a block of window 1 of call 0 in its array. -/
theorem emb0_1 (t : Fin cfg0.N) (j : S8x64.Idx) : ((cfg0.win 1).blk t).view.emb j = (j : S8x64.Idx) := by
  obtain ⟨e0, e1⟩ := idx0_1 t
  funext a; apply Fin.ext
  match a with
  | ⟨0, _⟩ => show win0_1.index t (0 : Fin 2) * 8 + 1 * (j 0).val = (j 0).val; rw [e0]; omega
  | ⟨1, _⟩ => show win0_1.index t (1 : Fin 2) * 64 + 1 * (j 1).val = (j 1).val; rw [e1]; omega

/-- Where the blocks of window 2 of call 0 start. -/
theorem idx0_2 : ∀ t : Fin cfg0.N, win0_2.index t (0 : Fin 2) = 0 ∧ win0_2.index t (1 : Fin 2) = 0 :=
  (by decide +kernel : ∀ t : Fin grid0.N, _)

/-- An entry of a block of window 2 of call 0 in its array. -/
theorem emb0_2 (t : Fin cfg0.N) (j : S1x64.Idx) : ((cfg0.win 2).blk t).view.emb j = (j : S1x64.Idx) := by
  obtain ⟨e0, e1⟩ := idx0_2 t
  funext a; apply Fin.ext
  match a with
  | ⟨0, _⟩ => show win0_2.index t (0 : Fin 2) * 1 + 1 * (j 0).val = (j 0).val; rw [e0]; omega
  | ⟨1, _⟩ => show win0_2.index t (1 : Fin 2) * 64 + 1 * (j 1).val = (j 1).val; rw [e1]; omega

/-- Where the blocks of window 3 of call 0 start. -/
theorem idx0_3 : ∀ t : Fin cfg0.N, win0_3.index t (0 : Fin 2) = t.val ∧ win0_3.index t (1 : Fin 2) = 0 :=
  (by decide +kernel : ∀ t : Fin grid0.N, _)

theorem row0_3 (t : Fin cfg0.N) (q : Fin 1000) : t.val * 1000 + q.val < 50000 := by
  have h1 : t.val < 50 := t.isLt
  have h2 := q.isLt
  omega

/-- An entry of a block of window 3 of call 0 in its array. -/
theorem emb0_3 (t : Fin cfg0.N) (j : S1000x64.Idx) : ((cfg0.win 3).blk t).view.emb j = (ix2 ⟨t.val * 1000 + (j 0).val, row0_3 t (j 0)⟩ (j 1) : S50000x64.Idx) := by
  obtain ⟨e0, e1⟩ := idx0_3 t
  funext a; apply Fin.ext
  match a with
  | ⟨0, _⟩ => show win0_3.index t (0 : Fin 2) * 1000 + 1 * (j 0).val = t.val * 1000 + (j 0).val; rw [e0]; omega
  | ⟨1, _⟩ => show win0_3.index t (1 : Fin 2) * 64 + 1 * (j 1).val = (j 1).val; rw [e1]; omega

/-- Where the blocks of window 4 of call 0 start. -/
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, _)

theorem row0_4 (t : Fin cfg0.N) (q : Fin 1) : t.val * 1 + q.val < 50 := by
  have h1 : t.val < 50 := t.isLt
  have h2 := q.isLt
  omega

/-- An entry of a block of window 4 of call 0 in its array. -/
theorem emb0_4 (t : Fin cfg0.N) (j : S1x1x64.Idx) : ((cfg0.win 4).blk t).view.emb j = (ix3 ⟨t.val * 1 + (j 0).val, row0_4 t (j 0)⟩ (j 1) (j 2) : S50x1x64.Idx) := by
  obtain ⟨e0, e1, e2⟩ := idx0_4 t
  funext a; apply Fin.ext
  match a with
  | ⟨0, _⟩ => show win0_4.index t (0 : Fin 3) * 1 + 1 * (j 0).val = t.val * 1 + (j 0).val; rw [e0]; omega
  | ⟨1, _⟩ => show win0_4.index t (1 : Fin 3) * 1 + 1 * (j 1).val = (j 1).val; rw [e1]; omega
  | ⟨2, _⟩ => show win0_4.index t (2 : Fin 3) * 64 + 1 * (j 2).val = (j 2).val; rw [e2]; omega

/-- Where the blocks of window 5 of call 0 start. -/
theorem idx0_5 : ∀ t : Fin cfg0.N, win0_5.index t (0 : Fin 3) = t.val ∧ win0_5.index t (1 : Fin 3) = 0 ∧ win0_5.index t (2 : Fin 3) = 0 :=
  (by decide +kernel : ∀ t : Fin grid0.N, _)

theorem row0_5 (t : Fin cfg0.N) (q : Fin 1) : t.val * 1 + q.val < 50 := by
  have h1 : t.val < 50 := t.isLt
  have h2 := q.isLt
  omega

/-- An entry of a block of window 5 of call 0 in its array. -/
theorem emb0_5 (t : Fin cfg0.N) (j : S1x1x64.Idx) : ((cfg0.win 5).blk t).view.emb j = (ix3 ⟨t.val * 1 + (j 0).val, row0_5 t (j 0)⟩ (j 1) (j 2) : S50x1x64.Idx) := by
  obtain ⟨e0, e1, e2⟩ := idx0_5 t
  funext a; apply Fin.ext
  match a with
  | ⟨0, _⟩ => show win0_5.index t (0 : Fin 3) * 1 + 1 * (j 0).val = t.val * 1 + (j 0).val; rw [e0]; omega
  | ⟨1, _⟩ => show win0_5.index t (1 : Fin 3) * 1 + 1 * (j 1).val = (j 1).val; rw [e1]; omega
  | ⟨2, _⟩ => show win0_5.index t (2 : Fin 3) * 64 + 1 * (j 2).val = (j 2).val; rw [e2]; omega

/-- Where the blocks of window 0 of call 1 start. -/
theorem idx1_0 : ∀ t : Fin cfg1.N, win1_0.index t (0 : Fin 2) = t.val ∧ win1_0.index t (1 : Fin 2) = 0 :=
  (by decide +kernel : ∀ t : Fin grid1.N, _)

theorem row1_0 (t : Fin cfg1.N) (q : Fin 5000) : t.val * 5000 + q.val < 50000 := by
  have h1 : t.val < 10 := t.isLt
  have h2 := q.isLt
  omega

/-- An entry of a block of window 0 of call 1 in its array. -/
theorem emb1_0 (t : Fin cfg1.N) (j : S5000x64.Idx) : ((cfg1.win 0).blk t).view.emb j = (ix2 ⟨t.val * 5000 + (j 0).val, row1_0 t (j 0)⟩ (j 1) : S50000x64.Idx) := by
  obtain ⟨e0, e1⟩ := idx1_0 t
  funext a; apply Fin.ext
  match a with
  | ⟨0, _⟩ => show win1_0.index t (0 : Fin 2) * 5000 + 1 * (j 0).val = t.val * 5000 + (j 0).val; rw [e0]; omega
  | ⟨1, _⟩ => show win1_0.index t (1 : Fin 2) * 64 + 1 * (j 1).val = (j 1).val; rw [e1]; omega

/-- Where the blocks of window 1 of call 1 start. -/
theorem idx1_1 : ∀ t : Fin cfg1.N, win1_1.index t (0 : Fin 3) = 0 ∧ win1_1.index t (1 : Fin 3) = 0 ∧ win1_1.index t (2 : Fin 3) = 0 :=
  (by decide +kernel : ∀ t : Fin grid1.N, _)

/-- An entry of a block of window 1 of call 1 in its array. -/
theorem emb1_1 (t : Fin cfg1.N) (j : S50x1x64.Idx) : ((cfg1.win 1).blk t).view.emb j = (j : S50x1x64.Idx) := by
  obtain ⟨e0, e1, e2⟩ := idx1_1 t
  funext a; apply Fin.ext
  match a with
  | ⟨0, _⟩ => show win1_1.index t (0 : Fin 3) * 50 + 1 * (j 0).val = (j 0).val; rw [e0]; omega
  | ⟨1, _⟩ => show win1_1.index t (1 : Fin 3) * 1 + 1 * (j 1).val = (j 1).val; rw [e1]; omega
  | ⟨2, _⟩ => show win1_1.index t (2 : Fin 3) * 64 + 1 * (j 2).val = (j 2).val; rw [e2]; omega

/-- Where the blocks of window 2 of call 1 start. -/
theorem idx1_2 : ∀ t : Fin cfg1.N, win1_2.index t (0 : Fin 3) = 0 ∧ win1_2.index t (1 : Fin 3) = 0 ∧ win1_2.index t (2 : Fin 3) = 0 :=
  (by decide +kernel : ∀ t : Fin grid1.N, _)

/-- An entry of a block of window 2 of call 1 in its array. -/
theorem emb1_2 (t : Fin cfg1.N) (j : S50x1x64.Idx) : ((cfg1.win 2).blk t).view.emb j = (j : S50x1x64.Idx) := by
  obtain ⟨e0, e1, e2⟩ := idx1_2 t
  funext a; apply Fin.ext
  match a with
  | ⟨0, _⟩ => show win1_2.index t (0 : Fin 3) * 50 + 1 * (j 0).val = (j 0).val; rw [e0]; omega
  | ⟨1, _⟩ => show win1_2.index t (1 : Fin 3) * 1 + 1 * (j 1).val = (j 1).val; rw [e1]; omega
  | ⟨2, _⟩ => show win1_2.index t (2 : Fin 3) * 64 + 1 * (j 2).val = (j 2).val; rw [e2]; omega

/-- Where the blocks of window 3 of call 1 start. -/
theorem idx1_3 : ∀ t : Fin cfg1.N, win1_3.index t (0 : Fin 2) = 0 ∧ win1_3.index t (1 : Fin 2) = 0 :=
  (by decide +kernel : ∀ t : Fin grid1.N, _)

/-- An entry of a block of window 3 of call 1 in its array. -/
theorem emb1_3 (t : Fin cfg1.N) (j : S1x64.Idx) : ((cfg1.win 3).blk t).view.emb j = (j : S1x64.Idx) := by
  obtain ⟨e0, e1⟩ := idx1_3 t
  funext a; apply Fin.ext
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

/-- Where the blocks of window 4 of call 1 start. -/
theorem idx1_4 : ∀ t : Fin cfg1.N, win1_4.index t (0 : Fin 2) = 0 ∧ win1_4.index t (1 : Fin 2) = 0 :=
  (by decide +kernel : ∀ t : Fin grid1.N, _)

/-- An entry of a block of window 4 of call 1 in its array. -/
theorem emb1_4 (t : Fin cfg1.N) (j : S1x64.Idx) : ((cfg1.win 4).blk t).view.emb j = (j : S1x64.Idx) := by
  obtain ⟨e0, e1⟩ := idx1_4 t
  funext a; apply Fin.ext
  match a with
  | ⟨0, _⟩ => show win1_4.index t (0 : Fin 2) * 1 + 1 * (j 0).val = (j 0).val; rw [e0]; omega
  | ⟨1, _⟩ => show win1_4.index t (1 : Fin 2) * 64 + 1 * (j 1).val = (j 1).val; rw [e1]; omega

/-- Where the blocks of window 5 of call 1 start. -/
theorem idx1_5 : ∀ t : Fin cfg1.N, win1_5.index t (0 : Fin 2) = t.val ∧ win1_5.index t (1 : Fin 2) = 0 :=
  (by decide +kernel : ∀ t : Fin grid1.N, _)

theorem row1_5 (t : Fin cfg1.N) (q : Fin 5000) : t.val * 5000 + q.val < 50000 := by
  have h1 : t.val < 10 := t.isLt
  have h2 := q.isLt
  omega

/-- An entry of a block of window 5 of call 1 in its array. -/
theorem emb1_5 (t : Fin cfg1.N) (j : S5000x64.Idx) : ((cfg1.win 5).blk t).view.emb j = (ix2 ⟨t.val * 5000 + (j 0).val, row1_5 t (j 0)⟩ (j 1) : S50000x64.Idx) := by
  obtain ⟨e0, e1⟩ := idx1_5 t
  funext a; apply Fin.ext
  match a with
  | ⟨0, _⟩ => show win1_5.index t (0 : Fin 2) * 5000 + 1 * (j 0).val = t.val * 5000 + (j 0).val; rw [e0]; omega
  | ⟨1, _⟩ => show win1_5.index t (1 : Fin 2) * 64 + 1 * (j 1).val = (j 1).val; rw [e1]; omega

/-! ## The blocks that the calls read -/

variable (V : Valuation τ sig (Elt F))

/-- Window 0 of call 0 reads the rows of its block. -/
theorem blk0_0_at (t : Fin cfg0.N) (i : Fin 1000) (k : Fin 3) :
    blk0_0 V t (ix2 i k) = V main_arg0 (ix2 ⟨t.val * 1000 + i.val, row0_0 t i⟩ k) := by
  show V main_arg0 (((cfg0.win 0).blk t).view.emb (ix2 i k)) = _
  rw [emb0_0]; rfl

/-- Window 1 of call 0 reads its whole array. -/
theorem blk0_1_eq (t : Fin cfg0.N) : blk0_1 V t = V main_v0 := by
  funext j; show V main_v0 (((cfg0.win 1).blk t).view.emb j) = V main_v0 j; rw [emb0_1]

/-- Window 2 of call 0 reads its whole array. -/
theorem blk0_2_eq (t : Fin cfg0.N) : blk0_2 V t = V main_v1 := by
  funext j; show V main_v1 (((cfg0.win 2).blk t).view.emb j) = V main_v1 j; rw [emb0_2]

/-- Window 0 of call 1 reads the rows of its block. -/
theorem blk1_0_at (t : Fin cfg1.N) (i : Fin 5000) (k : Fin 64) :
    blk1_0 V t (ix2 i k) = V main_v2_0 (ix2 ⟨t.val * 5000 + i.val, row1_0 t i⟩ k) := by
  show V main_v2_0 (((cfg1.win 0).blk t).view.emb (ix2 i k)) = _
  rw [emb1_0]; rfl

/-- Window 1 of call 1 reads its whole array. -/
theorem blk1_1_eq (t : Fin cfg1.N) : blk1_1 V t = V main_v2_1 := by
  funext j; show V main_v2_1 (((cfg1.win 1).blk t).view.emb j) = V main_v2_1 j; rw [emb1_1]

/-- Window 2 of call 1 reads its whole array. -/
theorem blk1_2_eq (t : Fin cfg1.N) : blk1_2 V t = V main_v2_2 := by
  funext j; show V main_v2_2 (((cfg1.win 2).blk t).view.emb j) = V main_v2_2 j; rw [emb1_2]

/-- Window 3 of call 1 reads its whole array. -/
theorem blk1_3_eq (t : Fin cfg1.N) : blk1_3 V t = V main_v3 := by
  funext j; show V main_v3 (((cfg1.win 3).blk t).view.emb j) = V main_v3 j; rw [emb1_3]

/-- Window 4 of call 1 reads its whole array. -/
theorem blk1_4_eq (t : Fin cfg1.N) : blk1_4 V t = V main_v4 := by
  funext j; show V main_v4 (((cfg1.win 4).blk t).view.emb j) = V main_v4 j; rw [emb1_4]

/-! ## The arrays that the calls leave -/

/-- The grid point that writes an entry of result 3 of call 0. -/
def resWT (i : S50000x64.Idx) : Fin cfg0.N :=
  ⟨(i 0).val / 1000, by
    have h : (i 0).val < 50000 := (i 0).isLt
    show (i 0).val / 1000 < 50
    omega⟩

/-- Result 3 of call 0, as a whole array. -/
def resW (V : Valuation τ sig (Elt F)) : Vec F S50000x64 .f32 := fun i => outW (blk0_0 V (resWT i)) (blk0_1 V (resWT i)) (blk0_2 V (resWT i)) (ix2 (⟨(i 0).val % 1000, Nat.mod_lt _ (by decide)⟩ : Fin 1000) (i 1))

/-- What a grid point leaves is its block of the whole array. -/
theorem resW_flushed (V : Dev nD → Valuation τ sig (Elt F)) (c : Dev nD) (t : Fin cfg0.N) :
    (dat0 V c).flushed 3 t = ((cfg0.win 3).blk t).view.read (Elt F) (resW (V c)) := by
  funext j
  show outW (blk0_0 (V c) t) (blk0_1 (V c) t) (blk0_2 (V c) t) j = resW (V c) (((cfg0.win 3).blk t).view.emb j)
  rw [emb0_3]
  have hj : (j 0).val < 1000 := (j 0).isLt
  have ht : t.val < 50 := t.isLt
  have e1 : ∀ h, resWT (ix2 ⟨t.val * 1000 + (j 0).val, h⟩ (j 1) : S50000x64.Idx) = t := fun h =>
    Fin.ext (show (t.val * 1000 + (j 0).val) / 1000 = t.val by omega)
  unfold resW
  rw [e1]
  refine congrArg _ (funext fun a => Fin.ext ?_)
  match a with
  | ⟨0, _⟩ => show (j 0).val = (t.val * 1000 + (j 0).val) % 1000; omega
  | ⟨1, _⟩ => rfl

/-- The place of an entry in its block. -/
theorem resW_place (i : S50000x64.Idx) : ((cfg0.win 3).blk (resWT i)).view.emb (ix2 (⟨(i 0).val % 1000, Nat.mod_lt _ (by decide)⟩ : Fin 1000) (i 1) : S1000x64.Idx) = i :=
  (emb0_3 _ _).trans (funext fun a => Fin.ext (by
    match a with
    | ⟨0, _⟩ => show (i 0).val / 1000 * 1000 + (i 0).val % 1000 = (i 0).val; omega
    | ⟨1, _⟩ => rfl))

/-- Every entry is in some grid point's block. -/
theorem resW_covered (i : S50000x64.Idx) :
    ∃ t : Fin cfg0.N, (cfg0.win 3).flush t = true ∧ i ∈ ((cfg0.win 3).blk t).view.set :=
  ⟨resWT i, flush0_3 _,
    (congrArg (· ∈ ((cfg0.win 3).blk (resWT i)).view.set) (resW_place i)).mp (((cfg0.win 3).blk (resWT i)).view.emb_mem_set _)⟩

/-- The array that call 0 leaves as its result 3. -/
theorem resW_final (V : Dev nD → Valuation τ sig (Elt F)) (c : Dev nD) : (dat0 V c).arrAt 3 cfg0.N = resW (V c) :=
  (dat0 V c).arrAt_eq_of_cover 3 (resW (V c)) (fun t _ => resW_flushed V c t) resW_covered

/-- The grid point that writes an entry of result 4 of call 0. -/
def resST (i : S50x1x64.Idx) : Fin cfg0.N :=
  ⟨(i 0).val / 1, by
    have h : (i 0).val < 50 := (i 0).isLt
    show (i 0).val / 1 < 50
    omega⟩

/-- Result 4 of call 0, as a whole array. -/
def resS (V : Valuation τ sig (Elt F)) : Vec F S50x1x64 .f32 := fun i => outS (blk0_0 V (resST i)) (blk0_1 V (resST i)) (blk0_2 V (resST i)) (ix3 (⟨(i 0).val % 1, Nat.mod_lt _ (by decide)⟩ : Fin 1) (i 1) (i 2))

/-- What a grid point leaves is its block of the whole array. -/
theorem resS_flushed (V : Dev nD → Valuation τ sig (Elt F)) (c : Dev nD) (t : Fin cfg0.N) :
    (dat0 V c).flushed 4 t = ((cfg0.win 4).blk t).view.read (Elt F) (resS (V c)) := by
  funext j
  show outS (blk0_0 (V c) t) (blk0_1 (V c) t) (blk0_2 (V c) t) j = resS (V c) (((cfg0.win 4).blk t).view.emb j)
  rw [emb0_4]
  have hj : (j 0).val < 1 := (j 0).isLt
  have ht : t.val < 50 := t.isLt
  have e1 : ∀ h, resST (ix3 ⟨t.val * 1 + (j 0).val, h⟩ (j 1) (j 2) : S50x1x64.Idx) = t := fun h =>
    Fin.ext (show (t.val * 1 + (j 0).val) / 1 = t.val by omega)
  unfold resS
  rw [e1]
  refine congrArg _ (funext fun a => Fin.ext ?_)
  match a with
  | ⟨0, _⟩ => show (j 0).val = (t.val * 1 + (j 0).val) % 1; omega
  | ⟨1, _⟩ => rfl
  | ⟨2, _⟩ => rfl

/-- The place of an entry in its block. -/
theorem resS_place (i : S50x1x64.Idx) : ((cfg0.win 4).blk (resST i)).view.emb (ix3 (⟨(i 0).val % 1, Nat.mod_lt _ (by decide)⟩ : Fin 1) (i 1) (i 2) : S1x1x64.Idx) = i :=
  (emb0_4 _ _).trans (funext fun a => Fin.ext (by
    match a with
    | ⟨0, _⟩ => show (i 0).val / 1 * 1 + (i 0).val % 1 = (i 0).val; omega
    | ⟨1, _⟩ => rfl
    | ⟨2, _⟩ => rfl))

/-- Every entry is in some grid point's block. -/
theorem resS_covered (i : S50x1x64.Idx) :
    ∃ t : Fin cfg0.N, (cfg0.win 4).flush t = true ∧ i ∈ ((cfg0.win 4).blk t).view.set :=
  ⟨resST i, flush0_4 _,
    (congrArg (· ∈ ((cfg0.win 4).blk (resST i)).view.set) (resS_place i)).mp (((cfg0.win 4).blk (resST i)).view.emb_mem_set _)⟩

/-- The array that call 0 leaves as its result 4. -/
theorem resS_final (V : Dev nD → Valuation τ sig (Elt F)) (c : Dev nD) : (dat0 V c).arrAt 4 cfg0.N = resS (V c) :=
  (dat0 V c).arrAt_eq_of_cover 4 (resS (V c)) (fun t _ => resS_flushed V c t) resS_covered

/-- The grid point that writes an entry of result 5 of call 0. -/
def resQT (i : S50x1x64.Idx) : Fin cfg0.N :=
  ⟨(i 0).val / 1, by
    have h : (i 0).val < 50 := (i 0).isLt
    show (i 0).val / 1 < 50
    omega⟩

/-- Result 5 of call 0, as a whole array. -/
def resQ (V : Valuation τ sig (Elt F)) : Vec F S50x1x64 .f32 := fun i => outQ (blk0_0 V (resQT i)) (blk0_1 V (resQT i)) (blk0_2 V (resQT i)) (ix3 (⟨(i 0).val % 1, Nat.mod_lt _ (by decide)⟩ : Fin 1) (i 1) (i 2))

/-- What a grid point leaves is its block of the whole array. -/
theorem resQ_flushed (V : Dev nD → Valuation τ sig (Elt F)) (c : Dev nD) (t : Fin cfg0.N) :
    (dat0 V c).flushed 5 t = ((cfg0.win 5).blk t).view.read (Elt F) (resQ (V c)) := by
  funext j
  show outQ (blk0_0 (V c) t) (blk0_1 (V c) t) (blk0_2 (V c) t) j = resQ (V c) (((cfg0.win 5).blk t).view.emb j)
  rw [emb0_5]
  have hj : (j 0).val < 1 := (j 0).isLt
  have ht : t.val < 50 := t.isLt
  have e1 : ∀ h, resQT (ix3 ⟨t.val * 1 + (j 0).val, h⟩ (j 1) (j 2) : S50x1x64.Idx) = t := fun h =>
    Fin.ext (show (t.val * 1 + (j 0).val) / 1 = t.val by omega)
  unfold resQ
  rw [e1]
  refine congrArg _ (funext fun a => Fin.ext ?_)
  match a with
  | ⟨0, _⟩ => show (j 0).val = (t.val * 1 + (j 0).val) % 1; omega
  | ⟨1, _⟩ => rfl
  | ⟨2, _⟩ => rfl

/-- The place of an entry in its block. -/
theorem resQ_place (i : S50x1x64.Idx) : ((cfg0.win 5).blk (resQT i)).view.emb (ix3 (⟨(i 0).val % 1, Nat.mod_lt _ (by decide)⟩ : Fin 1) (i 1) (i 2) : S1x1x64.Idx) = i :=
  (emb0_5 _ _).trans (funext fun a => Fin.ext (by
    match a with
    | ⟨0, _⟩ => show (i 0).val / 1 * 1 + (i 0).val % 1 = (i 0).val; omega
    | ⟨1, _⟩ => rfl
    | ⟨2, _⟩ => rfl))

/-- Every entry is in some grid point's block. -/
theorem resQ_covered (i : S50x1x64.Idx) :
    ∃ t : Fin cfg0.N, (cfg0.win 5).flush t = true ∧ i ∈ ((cfg0.win 5).blk t).view.set :=
  ⟨resQT i, flush0_5 _,
    (congrArg (· ∈ ((cfg0.win 5).blk (resQT i)).view.set) (resQ_place i)).mp (((cfg0.win 5).blk (resQT i)).view.emb_mem_set _)⟩

/-- The array that call 0 leaves as its result 5. -/
theorem resQ_final (V : Dev nD → Valuation τ sig (Elt F)) (c : Dev nD) : (dat0 V c).arrAt 5 cfg0.N = resQ (V c) :=
  (dat0 V c).arrAt_eq_of_cover 5 (resQ (V c)) (fun t _ => resQ_flushed V c t) resQ_covered

/-- The grid point that writes an entry of result 5 of call 1. -/
def resET (i : S50000x64.Idx) : Fin cfg1.N :=
  ⟨(i 0).val / 5000, by
    have h : (i 0).val < 50000 := (i 0).isLt
    show (i 0).val / 5000 < 10
    omega⟩

/-- Result 5 of call 1, as a whole array. -/
def resE (V : Valuation τ sig (Elt F)) : Vec F S50000x64 .f32 := fun i => k1_pay1 (blk1_1 V (resET i)) (blk1_2 V (resET i)) (blk1_3 V (resET i)) (blk1_4 V (resET i)) (blk1_0 V (resET i)) (ix2 (⟨(i 0).val % 5000, Nat.mod_lt _ (by decide)⟩ : Fin 5000) (i 1))

/-- What a grid point leaves is its block of the whole array. -/
theorem resE_flushed (V : Dev nD → Valuation τ sig (Elt F)) (c : Dev nD) (t : Fin cfg1.N) :
    (dat1 V c).flushed 5 t = ((cfg1.win 5).blk t).view.read (Elt F) (resE (V c)) := by
  funext j
  show k1_pay1 (blk1_1 (V c) t) (blk1_2 (V c) t) (blk1_3 (V c) t) (blk1_4 (V c) t) (blk1_0 (V c) t) j = resE (V c) (((cfg1.win 5).blk t).view.emb j)
  rw [emb1_5]
  have hj : (j 0).val < 5000 := (j 0).isLt
  have ht : t.val < 10 := t.isLt
  have e1 : ∀ h, resET (ix2 ⟨t.val * 5000 + (j 0).val, h⟩ (j 1) : S50000x64.Idx) = t := fun h =>
    Fin.ext (show (t.val * 5000 + (j 0).val) / 5000 = t.val by omega)
  unfold resE
  rw [e1]
  refine congrArg _ (funext fun a => Fin.ext ?_)
  match a with
  | ⟨0, _⟩ => show (j 0).val = (t.val * 5000 + (j 0).val) % 5000; omega
  | ⟨1, _⟩ => rfl

/-- The place of an entry in its block. -/
theorem resE_place (i : S50000x64.Idx) : ((cfg1.win 5).blk (resET i)).view.emb (ix2 (⟨(i 0).val % 5000, Nat.mod_lt _ (by decide)⟩ : Fin 5000) (i 1) : S5000x64.Idx) = i :=
  (emb1_5 _ _).trans (funext fun a => Fin.ext (by
    match a with
    | ⟨0, _⟩ => show (i 0).val / 5000 * 5000 + (i 0).val % 5000 = (i 0).val; omega
    | ⟨1, _⟩ => rfl))

/-- Every entry is in some grid point's block. -/
theorem resE_covered (i : S50000x64.Idx) :
    ∃ t : Fin cfg1.N, (cfg1.win 5).flush t = true ∧ i ∈ ((cfg1.win 5).blk t).view.set :=
  ⟨resET i, flush1_5 _,
    (congrArg (· ∈ ((cfg1.win 5).blk (resET i)).view.set) (resE_place i)).mp (((cfg1.win 5).blk (resET i)).view.emb_mem_set _)⟩

/-- The array that call 1 leaves as its result 5. -/
theorem resE_final (V : Dev nD → Valuation τ sig (Elt F)) (c : Dev nD) : (dat1 V c).arrAt 5 cfg1.N = resE (V c) :=
  (dat1 V c).arrAt_eq_of_cover 5 (resE (V c)) (fun t _ => resE_flushed V c t) resE_covered

end Cert.Arrays

end

end
-- ==== Proof.Const.lean ====
module

public import Idealize.ShloMosaic.PureOps.Ideal.Laws
public import Idealize.ShloMosaic.PureOps.IdealRules
public import proofs.«01_k».proof.KernelIdeal

@[expose] public section

/-! # The programs' constants as extended reals -/

noncomputable section

namespace Cert.Const

open Idealize.ShloMosaic

/-- The named constant `big` is `⊤`. -/
theorem big : (Named.named (F := Ideal) (φ := .f32) Cert.KernelIdeal.κ "big" 0x7F61B1E6#32 : EReal) = ⊤ := IdealRules.named_const.ideal_named_scalar _ _ _ _ rfl

/-- The named constant `inv_e` is one over the number of edges. -/
theorem inv_e : (Named.named (F := Ideal) (φ := .f32) Cert.KernelIdeal.κ "inv_e" 0x358637BD#32 : EReal) = (((1000000 : ℝ)⁻¹ : ℝ) : EReal) :=
  IdealRules.named_const.ideal_named_scalar _ _ _ _ rfl

/-- Positive infinity. -/
theorem top : Ideal.ofBits .f32 0x7F800000#32 = ⊤ := by simp [Ideal.ofBits, Ideal.ieee]

/-- Negative infinity. -/
theorem bot : Ideal.ofBits .f32 0xFF800000#32 = ⊥ := by simp [Ideal.ofBits, Ideal.ieee]

/-- Two. -/
theorem two : Ideal.ofBits .f32 0x40000000#32 = ((2 : ℝ) : EReal) := by
  simp [Ideal.ofBits, Ideal.ieee, -EReal.coe_mul]; norm_num

/-- Nineteen. -/
theorem nineteen : Ideal.ofBits .f32 0x41980000#32 = ((19 : ℝ) : EReal) := by
  simp [Ideal.ofBits, Ideal.ieee, -EReal.coe_mul]; norm_num

/-- Twenty. -/
theorem twenty : Ideal.ofBits .f32 0x41A00000#32 = ((20 : ℝ) : EReal) := by
  simp [Ideal.ofBits, Ideal.ieee, -EReal.coe_mul]; norm_num

/-- One million, the number of edges. -/
theorem million : Ideal.ofBits .f32 0x49742400#32 = ((1000000 : ℝ) : EReal) := by
  simp [Ideal.ofBits, Ideal.ieee, -EReal.coe_mul]; norm_num

/-- The number added to the variance. -/
def eps : ℝ := 10995116 / 2 ^ 40

/-- It is the programs' constant. -/
theorem eps_eq : Ideal.ofBits .f32 0x3727C5AC#32 = ((eps : ℝ) : EReal) := by
  simp [Ideal.ofBits, Ideal.ieee, -EReal.coe_mul, eps]; norm_num

/-- It is positive. -/
theorem eps_pos : 0 < eps := by unfold eps; positivity

/-- The slope below zero. -/
def slope : ℝ := 13421773 / 2 ^ 26

/-- It is the programs' constant. -/
theorem slope_eq : Ideal.ofBits .f32 0x3E4CCCCD#32 = ((slope : ℝ) : EReal) := by
  simp [Ideal.ofBits, Ideal.ieee, -EReal.coe_mul, slope]; norm_num

/-- It is positive. -/
theorem slope_pos : 0 < slope := by unfold slope; positivity

/-- A sum of real numbers, taken in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Const

end

end
-- ==== Proof.Pay0.lean ====
module

public import proofs.«01_k».proof.Proof.Const
public import proofs.«01_k».proof.Proof.Gen.KernelIdeal.Skeleton
public import Idealize.ShloMosaic.Lib.Pointwise

@[expose] public section

set_option maxRecDepth 16384

/-! # The search for the threshold, at an entry -/

noncomputable section

namespace Cert.Pay

open Cert.KernelIdeal Cert.KernelIdeal.Gen
open Idealize.ShloMosaic

/-- The features' part from the neighbour, at an entry. -/
theorem pay2 (x : S1000x3.Idx → EReal) (y : S8x64.Idx → EReal) (z : S1x64.Idx → EReal) (i : Fin 1000) (c : Fin 64) :
    k0_pay2 (F := Ideal) x y z (ix2 i c)
      = ∑ k : Fin 3, x (ix2 i k) * (y (ix2 ⟨k.val, by omega⟩ c) - y (ix2 ⟨3 + k.val, by omega⟩ c)) + z (ix2 0 c) := by
  pointwise [k0_pay2, k0_pay1]

/-- The features' part from the query, at an entry. -/
theorem pay3 (x : S1000x3.Idx → EReal) (y : S8x64.Idx → EReal) (i : Fin 1000) (c : Fin 64) :
    k0_pay3 (F := Ideal) x y (ix2 i c) = ∑ k : Fin 3, x (ix2 i k) * y (ix2 ⟨3 + k.val, by omega⟩ c) := by
  pointwise [k0_pay3, k0_pay1]

/-- The squared distances, at an entry. -/
theorem pay4 (x : S1000x3.Idx → EReal) (i j : Fin 1000) :
    k0_pay4 (F := Ideal) x (ix2 i j)
      = (∑ k : Fin 3, x (ix2 i k) * x (ix2 i k)) + (∑ k : Fin 3, x (ix2 j k) * x (ix2 j k))
        - ((2 : ℝ) : EReal) * ∑ k : Fin 3, x (ix2 i k) * x (ix2 j k) := by
  pointwise [k0_pay4]
  rw [Const.two]

/-- One round of striking out, at an entry. -/
theorem pay5 (x : S1000x1000.Idx → EReal) (i j : Fin 1000) :
    k0_pay5 (F := Ideal) x (ix2 i j) = if x (ix2 i j) = Finset.univ.inf (fun k => x (ix2 i k)) then ⊤ else x (ix2 i j) := by
  pointwise [k0_pay5]
  rw [Const.top, Const.big]; rfl

/-- The rows' minima. -/
theorem pay6 (x : S1000x1000.Idx → EReal) (i : Fin 1000) :
    k0_pay6 (F := Ideal) x (ix2 i 0) = Finset.univ.inf (fun k => x (ix2 i k)) := by
  pointwise [k0_pay6]
  rw [Const.top]; rfl

/-- The counting search starts from count zero. -/
theorem pay8 (i : Fin 1000) : k0_pay8 (F := Ideal) (ix2 i 0) = (0 : EReal) := by
  pointwise [k0_pay8]

/-- The rows' minima, in the counting search. -/
theorem pay10 (x : S1000x1000.Idx → EReal) (i : Fin 1000) :
    k0_pay10 (F := Ideal) x (ix2 i 0) = Finset.univ.inf (fun k => x (ix2 i k)) := by
  pointwise [k0_pay10]
  rw [Const.top]; rfl

/-- The threshold after a round of the counting search. -/
theorem pay11 (x : S1000x1000.Idx → EReal) (c t : S1000x1.Idx → EReal) (i : Fin 1000) :
    k0_pay11 (F := Ideal) x c t (ix2 i 0)
      = if c (ix2 i 0) < ((20 : ℝ) : EReal) then Finset.univ.inf (fun k => x (ix2 i k)) else t (ix2 i 0) := by
  pointwise [k0_pay11, k0_pay10]
  rw [Const.twenty, Const.top]; rfl

/-- The count after a round of the counting search. -/
theorem pay12 (x : S1000x1000.Idx → EReal) (c : S1000x1.Idx → EReal) (i : Fin 1000) :
    k0_pay12 (F := Ideal) x c (ix2 i 0)
      = c (ix2 i 0) + ∑ j, (if x (ix2 i j) = Finset.univ.inf (fun k => x (ix2 i k)) then (1 : EReal) else 0) := by
  pointwise [k0_pay12, k0_pay10]
  rw [Const.top]; rfl

/-- The row after a round of the counting search. -/
theorem pay13 (x : S1000x1000.Idx → EReal) (i j : Fin 1000) :
    k0_pay13 (F := Ideal) x (ix2 i j) = if x (ix2 i j) = Finset.univ.inf (fun k => x (ix2 i k)) then ⊤ else x (ix2 i j) := by
  pointwise [k0_pay13, k0_pay10]
  rw [Const.top, Const.big]; rfl

end Cert.Pay

end

end
-- ==== Proof.Pay1.lean ====
module

public import proofs.«01_k».proof.Proof.Const
public import proofs.«01_k».proof.Proof.Gen.KernelIdeal.Skeleton
public import Idealize.ShloMosaic.Lib.Pointwise

@[expose] public section

set_option maxRecDepth 16384

/-! # The neighbours' matrix, at an entry -/

noncomputable section

namespace Cert.Pay

open Cert.KernelIdeal Cert.KernelIdeal.Gen
open Idealize.ShloMosaic

/-- The greatest number of struck out entries in a row. -/
theorem pay7 (x : S1000x1000.Idx → EReal) :
    k0_pay7 (F := Ideal) x = Finset.univ.sup fun q : Fin 1000 × Fin 1 => ∑ j, (if x (ix2 q.1 j) = ⊤ then (1 : EReal) else 0) := by
  pointwise [k0_pay7]
  rw [Const.bot, Const.big]; rfl

/-- The greatest number of entries at or below the threshold in a row. -/
theorem pay17 (x : S1000x1000.Idx → EReal) (t : S1000x1.Idx → EReal) :
    k0_pay17 (F := Ideal) x t = Finset.univ.sup fun q : Fin 1000 × Fin 1 =>
      (∑ j, (if x (ix2 q.1 j) < t (ix2 q.1 0) then (1 : EReal) else 0)) + ∑ j, (if x (ix2 q.1 j) = t (ix2 q.1 0) then (1 : EReal) else 0) := by
  pointwise [k0_pay17, k0_pay16, k0_pay15, k0_pay14]
  rw [Const.bot]; rfl

/-- Whether an entry at the threshold is kept. -/
theorem pay18 (x : S1000x1000.Idx → EReal) (t : S1000x1.Idx → EReal) (i j : Fin 1000) :
    k0_pay18 (F := Ideal) x t (ix2 i j)
      = if (∑ k : Fin 1000, (if x (ix2 i k) = t (ix2 i 0) ∧ k < j then (1 : EReal) else 0))
          < ((20 : ℝ) : EReal) - ∑ k, (if x (ix2 i k) < t (ix2 i 0) then (1 : EReal) else 0) then 1 else 0 := by
  have h : ∀ k : Fin 1000, Scalar.select (IntOp.cmpi CmpIPredicate.slt (BitVec.ofNat 32 k.val) (BitVec.ofNat 32 j.val))
        (if x (ix2 i k) = t (ix2 i 0) then (1 : EReal) else 0) 0 = if x (ix2 i k) = t (ix2 i 0) ∧ k < j then (1 : EReal) else 0 := fun k => by
    have hk : k.val < 1000 := k.isLt
    have hj : j.val < 1000 := j.isLt
    have h1 : IntOp.cmpi CmpIPredicate.slt (BitVec.ofNat 32 k.val) (BitVec.ofNat 32 j.val) = BitVec.ofBool (decide (k < j)) := by
      unfold IntOp.cmpi
      congr 1
      simp only [BitVec.slt]
      have e : ∀ n : Nat, n < 1000 → (BitVec.ofNat 32 n).toInt = (n : ℤ) := fun n hn => by
        have hn' : (BitVec.ofNat 32 n).toNat = n := by rw [BitVec.toNat_ofNat]; exact Nat.mod_eq_of_lt (by omega)
        rw [BitVec.toInt_eq_toNat_of_lt (by rw [hn']; omega), hn']
      rw [e _ hk, e _ hj]
      simp only [Fin.lt_def, Nat.cast_lt]
    rw [h1]
    by_cases e : k < j <;> simp [e, Scalar.select]
  pointwise [k0_pay18, k0_pay15, k0_pay16, k0_pay14]
  rw [Const.twenty]
  simp only [h]

/-- Every entry kept. -/
theorem pay19 (i j : Fin 1000) : k0_pay19 (F := Ideal) (ix2 i j) = (1 : EReal) := by
  pointwise [k0_pay19]

/-- The neighbours' matrix, at an entry. -/
theorem pay20 (x : S1000x1000.Idx → EReal) (t : S1000x1.Idx → EReal) (k : S1000x1000.Idx → EReal) (i j : Fin 1000) :
    k0_pay20 (F := Ideal) x t k (ix2 i j)
      = (if x (ix2 i j) < t (ix2 i 0) then (1 : EReal) else 0) + (if x (ix2 i j) = t (ix2 i 0) then (1 : EReal) else 0) * k (ix2 i j) := by
  pointwise [k0_pay20, k0_pay14, k0_pay15]

end Cert.Pay

end

end
-- ==== Proof.Rank.lean ====
module

public import Idealize.ShloMosaic.Lib.SortFacts
public import Idealize.ShloMosaic.PureOps.Ideal.Laws

@[expose] public section

/-! # The twenty nearest of a row

A row of distances `r` orders its positions by distance, equal distances by position (`before`). `rank r j` counts the
positions before `j`; the neighbours of the row are the positions of rank below 20. Two computations find them: a stable sort
cut to twenty entries, and a threshold found by striking out minima. -/

noncomputable section

namespace Cert.Rank

open Idealize.ShloMosaic

/-- Position `k` comes before position `j`: at a smaller distance, or at the same distance and a smaller position. -/
def before {n : Nat} (r : Fin n → ℝ) (k j : Fin n) : Prop := r k < r j ∨ (r k = r j ∧ k < j)

open scoped Classical in
/-- How many positions come before `j`. -/
def rank {n : Nat} (r : Fin n → ℝ) (j : Fin n) : ℕ := (Finset.univ.filter fun k => before r k j).card

/-- `before` is transitive. -/
theorem before_trans {n : Nat} {r : Fin n → ℝ} {a b c : Fin n} (h : before r a b) (h' : before r b c) : before r a c := by
  unfold before at *
  rcases h with h | ⟨h, h1⟩ <;> rcases h' with h' | ⟨h', h1'⟩
  · exact .inl (h.trans h')
  · exact .inl (h' ▸ h)
  · exact .inl (h ▸ h')
  · exact .inr ⟨h.trans h', h1.trans h1'⟩

/-- Nothing comes before itself. -/
theorem before_irrefl {n : Nat} (r : Fin n → ℝ) (a : Fin n) : ¬ before r a a := by
  unfold before; rintro (h | ⟨_, h⟩) <;> exact lt_irrefl _ h

/-! ## The stable sort -/

/-- Inserting a position smaller than all listed ones keeps a list in order. -/
theorem insert_sorted {n : Nat} (r : Fin n → ℝ) (B : Fin n → Fin n → Bool) (hB : ∀ a b, B a b = true ↔ r a < r b) (a : Fin n)
    (l : List (Fin n)) (hl : l.Pairwise (before r)) (ha : ∀ b ∈ l, a < b) : (insertBefore B a l).Pairwise (before r) := by
  induction l with
  | nil => simp [insertBefore]
  | cons b l ih =>
    rw [List.pairwise_cons] at hl
    unfold insertBefore
    by_cases h : B b a = true
    · rw [if_pos h, List.pairwise_cons]
      refine ⟨fun c hc => ?_, ih hl.2 fun c hc => ha c (List.mem_cons_of_mem _ hc)⟩
      rcases List.mem_cons.1 ((perm_insertBefore B a l).mem_iff.1 hc) with rfl | hc
      · exact .inl ((hB _ _).1 h)
      · exact hl.1 c hc
    · rw [if_neg h, List.pairwise_cons, List.pairwise_cons]
      have hab : before r a b := by
        have h1 : ¬ r b < r a := fun e => h ((hB _ _).2 e)
        rcases lt_or_eq_of_le (not_lt.1 h1) with h2 | h2
        · exact .inl h2
        · exact .inr ⟨h2, ha b List.mem_cons_self⟩
      refine ⟨fun c hc => ?_, hl⟩
      rcases List.mem_cons.1 hc with rfl | hc
      · exact hab
      · exact before_trans hab (hl.1 c hc)

/-- A stable sort of an increasing list of positions is in order. -/
theorem sort_sorted {n : Nat} (r : Fin n → ℝ) (B : Fin n → Fin n → Bool) (hB : ∀ a b, B a b = true ↔ r a < r b)
    (l : List (Fin n)) (hl : l.Pairwise (· < ·)) : (stableSort B l).Pairwise (before r) := by
  induction l with
  | nil => exact List.Pairwise.nil
  | cons a l ih =>
    rw [List.pairwise_cons] at hl
    exact insert_sorted r B hB a _ (ih hl.2) fun b hb => hl.1 b ((perm_stableSort B l).mem_iff.1 hb)

open scoped Classical in
/-- The position which the stable sort puts at `k` has rank `k`. -/
theorem rank_sortedFrom {n : Nat} (r : Fin n → ℝ) (B : Fin n → Fin n → Bool) (hB : ∀ a b, B a b = true ↔ r a < r b)
    (k : Fin n) : rank r (sortedFrom B k) = k.val := by
  have hs := sort_sorted r B hB (List.finRange n) (List.pairwise_lt_finRange n)
  have hlt : ∀ i j : Fin n, i < j → before r (sortedFrom B i) (sortedFrom B j) := fun i j hij => by
    unfold sortedFrom
    exact List.pairwise_iff_get.1 hs _ _ hij
  have hiff : ∀ i j : Fin n, before r (sortedFrom B i) (sortedFrom B j) ↔ i < j := fun i j => by
    refine ⟨fun h => ?_, hlt i j⟩
    by_contra hc
    rcases lt_or_eq_of_le (not_lt.1 hc) with h1 | h1
    · exact before_irrefl r _ (before_trans h (hlt _ _ h1))
    · subst h1; exact before_irrefl r _ h
  unfold rank
  have : (Finset.univ.filter fun q => before r q (sortedFrom B k)) = (Finset.univ.filter fun i : Fin n => i < k).image (sortedFrom B) := by
    ext q
    simp only [Finset.mem_filter, Finset.mem_univ, true_and, Finset.mem_image]
    constructor
    · intro h
      obtain ⟨i, rfl⟩ := sortedFrom_surjective B q
      exact ⟨i, (hiff _ _).1 h, rfl⟩
    · rintro ⟨i, hi, rfl⟩
      exact (hiff _ _).2 hi
  rw [this, Finset.card_image_of_injective _ (sortedFrom_injective B)]
  have : (Finset.univ.filter fun i : Fin n => i < k) = Finset.Iio k := by ext; simp
  rw [this, Fin.card_Iio]

/-! ## The threshold -/

open scoped Classical in
/-- `τ` separates the twenty nearest: fewer than twenty are strictly below it, at least twenty at or below it. -/
def Good {n : Nat} (r : Fin n → ℝ) (τ : ℝ) : Prop :=
  (Finset.univ.filter fun j => r j < τ).card < 20 ∧ 20 ≤ (Finset.univ.filter fun j => r j ≤ τ).card

open scoped Classical in
/-- The rank of a position at the threshold: those strictly below, and its equals at smaller positions. -/
theorem rank_eq_of_eq {n : Nat} (r : Fin n → ℝ) (τ : ℝ) (j : Fin n) (h : r j = τ) :
    rank r j = (Finset.univ.filter fun k => r k < τ).card + (Finset.univ.filter fun k => r k = τ ∧ k < j).card := by
  unfold rank
  rw [← Finset.card_union_of_disjoint]
  · congr 1; ext k; simp [before, h]
  · rw [Finset.disjoint_filter]; rintro k _ h1 ⟨h2, _⟩; exact absurd h2 h1.ne

open scoped Classical in
/-- A position strictly below a separating threshold has rank below twenty. -/
theorem rank_lt_of_lt {n : Nat} {r : Fin n → ℝ} {τ : ℝ} (g : Good r τ) {j : Fin n} (h : r j < τ) : rank r j < 20 := by
  refine lt_of_le_of_lt (Finset.card_le_card fun k hk => ?_) g.1
  simp only [Finset.mem_filter, Finset.mem_univ, true_and] at hk ⊢
  rcases hk with hk | ⟨hk, _⟩ <;> linarith

open scoped Classical in
/-- A position strictly above a separating threshold has rank at least twenty. -/
theorem le_rank_of_lt {n : Nat} {r : Fin n → ℝ} {τ : ℝ} (g : Good r τ) {j : Fin n} (h : τ < r j) : 20 ≤ rank r j := by
  refine g.2.trans (Finset.card_le_card fun k hk => ?_)
  simp only [Finset.mem_filter, Finset.mem_univ, true_and] at hk ⊢
  exact Or.inl (by linarith)

open scoped Classical in
/-- With at most twenty at or below the threshold, every position at it has rank below twenty. -/
theorem rank_lt_of_le {n : Nat} {r : Fin n → ℝ} {τ : ℝ} {j : Fin n} (h : r j = τ)
    (hc : (Finset.univ.filter fun k => r k < τ).card + (Finset.univ.filter fun k => r k = τ).card ≤ 20) : rank r j < 20 := by
  rw [rank_eq_of_eq r τ j h]
  refine lt_of_lt_of_le (Nat.add_lt_add_left (Finset.card_lt_card ?_) _) hc
  rw [Finset.ssubset_iff_of_subset (fun k hk => by simp at hk ⊢; exact hk.1)]
  exact ⟨j, by simp [h], by simp⟩

/-! ## Striking out minima -/

/-- Every copy of the minimum of a row replaced by `⊤`. -/
def strike {n : Nat} (x : Fin n → EReal) : Fin n → EReal := fun j => if x j = Finset.univ.inf x then ⊤ else x j

/-- `x` is the row `r` with the positions of `R`, all of them nearer than the others, replaced by `⊤`. -/
structure Struck {n : Nat} (r : Fin n → ℝ) (x : Fin n → EReal) (R : Finset (Fin n)) : Prop where
  /-- what stands at a position -/
  val : ∀ j, x j = if j ∈ R then ⊤ else ((r j : ℝ) : EReal)
  /-- the replaced positions are the nearer ones -/
  low : ∀ j ∈ R, ∀ l, l ∉ R → r j < r l

/-- Nothing is struck out at first. -/
theorem struck_empty {n : Nat} (r : Fin n → ℝ) : Struck r (fun j => ((r j : ℝ) : EReal)) ∅ :=
  ⟨fun j => by simp, fun j h => absurd h (Finset.notMem_empty j)⟩

open scoped Classical in
/-- One more round, while something is left: the minimum is a real number `m`, the struck positions are those strictly below
    it, and after the round those at or below it. -/
theorem Struck.round {n : Nat} {r : Fin n → ℝ} {x : Fin n → EReal} {R : Finset (Fin n)} (h : Struck r x R) (hR : R ≠ Finset.univ) :
    ∃ m : ℝ, Finset.univ.inf x = ((m : ℝ) : EReal) ∧ R = (Finset.univ.filter fun j => r j < m) ∧
      Struck r (strike x) (Finset.univ.filter fun j => r j ≤ m) ∧ R.card < (Finset.univ.filter fun j => r j ≤ m).card ∧
      (∀ j, x j = ((m : ℝ) : EReal) ↔ r j = m) := by
  have hne : Rᶜ.Nonempty := by
    rw [Finset.nonempty_iff_ne_empty]; intro e; exact hR ((Finset.compl_eq_empty_iff _).1 e)
  obtain ⟨l, hl, hmin⟩ := Finset.exists_min_image Rᶜ r hne
  have hl' : l ∉ R := by simpa using hl
  have hmin' : ∀ j, j ∉ R → r l ≤ r j := fun j hj => hmin j (by simpa using hj)
  have hinf : Finset.univ.inf x = ((r l : ℝ) : EReal) := by
    apply le_antisymm
    · refine (Finset.inf_le (Finset.mem_univ l)).trans ?_
      rw [h.val, if_neg hl']
    · refine Finset.le_inf fun j _ => ?_
      rw [h.val]
      split
      · exact le_top
      · rename_i hj; exact EReal.coe_le_coe_iff.2 (hmin' j hj)
  have hset : R = (Finset.univ.filter fun j => r j < r l) := by
    ext j
    simp only [Finset.mem_filter, Finset.mem_univ, true_and]
    refine ⟨fun hj => h.low j hj l hl', fun hj => ?_⟩
    by_contra hc
    exact absurd (hmin' j hc) (not_le.2 hj)
  have heq : ∀ j, x j = ((r l : ℝ) : EReal) ↔ r j = r l := fun j => by
    rw [h.val]
    by_cases hj : j ∈ R
    · rw [if_pos hj]
      exact ⟨fun e => absurd e.symm (EReal.coe_ne_top _), fun e => absurd (h.low j hj l hl') (by rw [e]; exact lt_irrefl _)⟩
    · rw [if_neg hj, EReal.coe_eq_coe_iff]
  refine ⟨r l, hinf, hset, ⟨fun j => ?_, fun j hj q hq => ?_⟩, ?_, heq⟩
  · unfold strike
    rw [hinf]
    by_cases e : r j = r l
    · rw [if_pos ((heq j).2 e), if_pos (by simp [e])]
    · rw [if_neg (fun he => e ((heq j).1 he)), h.val]
      have : (j ∈ R) ↔ j ∈ (Finset.univ.filter fun j => r j ≤ r l) := by
        rw [hset]; simp only [Finset.mem_filter, Finset.mem_univ, true_and]
        exact ⟨le_of_lt, fun e' => lt_of_le_of_ne e' e⟩
      simp only [this]
  · simp only [Finset.mem_filter, Finset.mem_univ, true_and] at hj hq; linarith
  · refine Finset.card_lt_card ?_
    rw [Finset.ssubset_iff_of_subset (fun k hk => by rw [hset] at hk; simp at hk ⊢; exact hk.le)]
    exact ⟨l, by simp, hl'⟩

/-- Once everything is struck out a round changes nothing. -/
theorem Struck.done {n : Nat} {r : Fin n → ℝ} {x : Fin n → EReal} (h : Struck r x Finset.univ) : Struck r (strike x) Finset.univ :=
  ⟨fun j => by unfold strike; have := h.val j; simp at this; simp [this], h.low⟩

/-- A round strikes out at least one more position, while some are left. -/
theorem Struck.next {n : Nat} {r : Fin n → ℝ} {x : Fin n → EReal} {R : Finset (Fin n)} (h : Struck r x R) (k : ℕ) (hk : min k n ≤ R.card) :
    ∃ R', Struck r (strike x) R' ∧ min (k + 1) n ≤ R'.card := by
  by_cases hR : R = Finset.univ
  · subst hR
    exact ⟨_, h.done, by simp⟩
  · obtain ⟨m, _, _, h2, h3, _⟩ := h.round hR
    exact ⟨_, h2, by omega⟩

/-- After `k` rounds at least `k` positions are struck out. -/
theorem struck_iterate {n : Nat} (r : Fin n → ℝ) (k : ℕ) :
    ∃ R, Struck r (strike^[k] fun j => ((r j : ℝ) : EReal)) R ∧ min k n ≤ R.card := by
  induction k with
  | zero => exact ⟨∅, struck_empty r, by simp⟩
  | succ k ih =>
    obtain ⟨R, h, hk⟩ := ih
    rw [Function.iterate_succ_apply']
    exact h.next k hk

/-- The number of positions holding `⊤` is the number struck out. -/
theorem Struck.count {n : Nat} {r : Fin n → ℝ} {x : Fin n → EReal} {R : Finset (Fin n)} (h : Struck r x R) :
    (∑ j, if x j = ⊤ then (1 : EReal) else 0) = ((R.card : ℝ) : EReal) := by
  rw [Finset.sum_boole]
  have : (Finset.univ.filter fun j => x j = ⊤) = R := by
    ext j; simp [h.val]
  rw [this]; simp

open scoped Classical in
/-- If after nineteen rounds no more than nineteen positions are struck out, the minimum of the rest separates the twenty nearest. -/
theorem good_of_count {r : Fin 1000 → ℝ} {x : Fin 1000 → EReal} {R : Finset (Fin 1000)} (h : Struck r x R) (h1 : 19 ≤ R.card)
    (h2 : R.card ≤ 19) : ∃ τ : ℝ, Finset.univ.inf x = ((τ : ℝ) : EReal) ∧ Good r τ := by
  have hR : R ≠ Finset.univ := fun e => by rw [e] at h2; simp at h2
  obtain ⟨m, e, e1, _, h3, _⟩ := h.round hR
  refine ⟨m, e, ?_, by omega⟩
  rw [← e1]; omega

/-! ## The search that counts equal distances -/

/-- One round of the counting search on a row: the row, the count so far, the threshold so far. -/
def step {n : Nat} (s : (Fin n → EReal) × EReal × EReal) : (Fin n → EReal) × EReal × EReal :=
  (strike s.1, s.2.1 + ∑ j, (if s.1 j = Finset.univ.inf s.1 then (1 : EReal) else 0),
    if s.2.1 < ((20 : ℝ) : EReal) then Finset.univ.inf s.1 else s.2.2)

/-- What holds after `k` rounds of the counting search. -/
def Inv (r : Fin 1000 → ℝ) (k : ℕ) (s : (Fin 1000 → EReal) × EReal × EReal) : Prop :=
  ∃ (R : Finset (Fin 1000)) (c : ℕ), Struck r s.1 R ∧ min k 1000 ≤ R.card ∧ s.2.1 = ((c : ℝ) : EReal) ∧ (R.card < 20 → c = R.card) ∧
    (20 ≤ R.card → 20 ≤ c) ∧ (20 ≤ R.card → ∃ τ : ℝ, s.2.2 = ((τ : ℝ) : EReal) ∧ Good r τ)

open scoped Classical in
/-- A round keeps the invariant. -/
theorem Inv.next {r : Fin 1000 → ℝ} {k : ℕ} {s : (Fin 1000 → EReal) × EReal × EReal} (h : Inv r k s) : Inv r (k + 1) (step s) := by
  obtain ⟨R, c, h1, h2, h3, h4, h5, h6⟩ := h
  have hlt : s.2.1 < ((20 : ℝ) : EReal) ↔ c < 20 := by
    rw [h3, EReal.coe_lt_coe_iff]; exact_mod_cast Iff.rfl
  by_cases hR : R = Finset.univ
  · subst hR
    have hc : 20 ≤ (Finset.univ : Finset (Fin 1000)).card := by simp
    refine ⟨Finset.univ, c + (Finset.univ.filter fun j => s.1 j = Finset.univ.inf s.1).card, h1.done, by simp, ?_, ?_, fun _ => ?_, fun _ => ?_⟩
    · show s.2.1 + _ = _
      rw [h3, Finset.sum_boole]; push_cast; simp
    · intro h; omega
    · have := h5 hc; omega
    · have := h5 hc
      show ∃ τ : ℝ, (if s.2.1 < ((20 : ℝ) : EReal) then Finset.univ.inf s.1 else s.2.2) = _ ∧ _
      rw [if_neg (by rw [hlt]; omega)]
      exact h6 hc
  · obtain ⟨m, e, e1, e2, e3, e4⟩ := h1.round hR
    have hcount : (Finset.univ.filter fun j => s.1 j = Finset.univ.inf s.1) = (Finset.univ.filter fun j => r j = m) := by
      ext j; simp only [Finset.mem_filter, Finset.mem_univ, true_and, e]; exact e4 j
    have hsum : (Finset.univ.filter fun j => r j ≤ m).card = R.card + (Finset.univ.filter fun j => r j = m).card := by
      rw [e1, ← Finset.card_union_of_disjoint]
      · congr 1; ext j; simp [le_iff_lt_or_eq]
      · rw [Finset.disjoint_filter]; intro j _ h h'; exact absurd h' h.ne
    refine ⟨_, c + (Finset.univ.filter fun j => r j = m).card, e2, by omega, ?_, fun h => ?_, fun h => ?_, fun h => ?_⟩
    · show s.2.1 + _ = _
      rw [h3, Finset.sum_boole, hcount]; push_cast; simp
    · have := h4 (by omega); omega
    · by_cases hc : R.card < 20
      · have := h4 hc; omega
      · have := h5 (by omega); omega
    · show ∃ τ : ℝ, (if s.2.1 < ((20 : ℝ) : EReal) then Finset.univ.inf s.1 else s.2.2) = _ ∧ _
      by_cases hc : R.card < 20
      · rw [if_pos (by rw [hlt, h4 hc]; exact hc)]
        exact ⟨m, e, by rw [← e1]; exact hc, h⟩
      · rw [if_neg (by rw [hlt]; have := h5 (by omega); omega)]
        exact h6 (by omega)

/-- After twenty rounds the counting search holds a separating threshold. -/
theorem good_iterate (r : Fin 1000 → ℝ) (t0 : EReal) :
    ∃ τ : ℝ, (step^[20] ((fun j => ((r j : ℝ) : EReal)), (0 : EReal), t0)).2.2 = ((τ : ℝ) : EReal) ∧ Good r τ := by
  have h : ∀ k, Inv r k (step^[k] ((fun j => ((r j : ℝ) : EReal)), (0 : EReal), t0)) := fun k => by
    induction k with
    | zero => exact ⟨∅, 0, struck_empty r, by simp, by simp, by simp, by simp, by simp⟩
    | succ k ih => rw [Function.iterate_succ_apply']; exact ih.next
  obtain ⟨R, c, _, h2, _, _, _, h6⟩ := h 20
  exact h6 (by omega)

end Cert.Rank

end

end
-- ==== Proof.Spec.lean ====
module

public import proofs.«01_k».proof.Proof.Rank

@[expose] public section

/-! # The edge convolution on real numbers

The quantities that both programs compute, written once over real inputs: `p` holds the points of one graph, `W` the weights,
`b` the offset. -/

noncomputable section

namespace Cert.Spec

/-- The squared distance of points `i` and `j` of a graph. -/
def dist (p : Fin 1000 → Fin 3 → ℝ) (i j : Fin 1000) : ℝ :=
  ((∑ k, p i k * p i k) + ∑ k, p j k * p j k) - 2 * ∑ k, p i k * p j k

/-- Point `j` is one of the twenty neighbours of point `i`. -/
def near (p : Fin 1000 → Fin 3 → ℝ) (i j : Fin 1000) : Prop := Rank.rank (dist p i) j < 20

/-- What a neighbour contributes to an edge's feature. -/
def u (p : Fin 1000 → Fin 3 → ℝ) (W : Fin 6 → Fin 64 → ℝ) (b : Fin 64 → ℝ) (j : Fin 1000) (c : Fin 64) : ℝ :=
  (∑ k : Fin 3, p j k * (W ⟨k.val, by omega⟩ c - W ⟨3 + k.val, by omega⟩ c)) + b c

/-- What the query contributes to an edge's feature. -/
def v (p : Fin 1000 → Fin 3 → ℝ) (W : Fin 6 → Fin 64 → ℝ) (i : Fin 1000) (c : Fin 64) : ℝ :=
  ∑ k : Fin 3, p i k * W ⟨3 + k.val, by omega⟩ c

/-- The real-valued number of a one-or-zero condition. -/
def ind (q : Prop) : ℝ := open scoped Classical in if q then 1 else 0

/-- The sum of the features over the edges of a graph. -/
def esum (p : Fin 1000 → Fin 3 → ℝ) (W : Fin 6 → Fin 64 → ℝ) (b : Fin 64 → ℝ) (c : Fin 64) : ℝ :=
  ∑ i, ∑ j, ind (near p i j) * (u p W b j c + v p W i c)

/-- The sum of the squared features over the edges of a graph. -/
def esq (p : Fin 1000 → Fin 3 → ℝ) (W : Fin 6 → Fin 64 → ℝ) (b : Fin 64 → ℝ) (c : Fin 64) : ℝ :=
  ∑ i, ∑ j, ind (near p i j) * ((u p W b j c + v p W i c) * (u p W b j c + v p W i c))

end Cert.Spec

end

end
-- ==== Proof.Nbr.lean ====
module

public import proofs.«01_k».proof.Proof.Pay0
public import proofs.«01_k».proof.Proof.Pay1
public import proofs.«01_k».proof.Proof.Spec
public import proofs.«01_k».proof.Proof.Body0

@[expose] public section

set_option maxRecDepth 16384

/-! # The neighbours' matrix of the first call

Whichever branch the two conditionals take, the matrix the kernel builds from the distances of a graph holds a one where the
column is among the twenty nearest of the row, equal distances ranked by position, and a zero elsewhere. -/

noncomputable section

namespace Cert.Nbr

open Cert.KernelIdeal Cert.KernelIdeal.Gen Cert.KernelIdeal.Body
open Idealize.ShloMosaic

/-- A fold that does the same at every trip is the step repeated. -/
theorem fold_const {σ : Type} (n : ℕ) (f : σ → σ) (a : σ) : Scf.fold (fun (_ : Fin n) x => f x) a = f^[n] a := by
  rw [Scf.fold_eq]
  have h : ∀ (l : List (Fin n)) (a : σ), l.foldl (fun x _ => f x) a = f^[l.length] a := by
    intro l
    induction l with
    | nil => intro a; rfl
    | cons _ l ih => intro a; simp only [List.foldl_cons, List.length_cons, Function.iterate_succ, Function.comp]; exact ih _
  rw [h, List.length_finRange]

/-- The flag of a comparison, as the conditionals read it. -/
theorem flag (a b : EReal) :
    Scalar.cmpi .ne (Scalar.extui (Scalar.cmpf (F := Ideal) (φ := .f32) .ogt a b) : BitVec 32) 0#32 = 1#1 ↔ b < a := by
  have h : Scalar.cmpf (F := Ideal) (φ := .f32) .ogt a b = BitVec.ofBool (decide (b < a)) := rfl
  rw [h]
  by_cases hb : b < a
  · simp only [hb, decide_true, iff_true]; decide
  · simp only [hb, decide_false, iff_false]; decide

/-- A row of a matrix. -/
def row (d : FVec Ideal S1000x1000 .f32) (i : Fin 1000) : Fin 1000 → EReal := fun j => d (ix2 i j)

/-- The row after nineteen rounds of striking out. -/
theorem row_struck (d : FVec Ideal S1000x1000 .f32) (i : Fin 1000) : row (struck d) i = Rank.strike^[19] (row d i) := by
  have h : Function.Semiconj (fun d => row d i) (k0_pay5 (F := Ideal)) Rank.strike := fun x => by
    funext j
    exact Pay.pay5 x i j
  have e : struck d = (k0_pay5 (F := Ideal))^[19] d := fold_const 19 _ d
  rw [e]
  exact (h.iterate_right 19) d

/-- A row's part of the counting search. -/
def part (s : FVec Ideal S1000x1000 .f32 × FVec Ideal S1000x1 .f32 × FVec Ideal S1000x1 .f32) (i : Fin 1000) :
    (Fin 1000 → EReal) × EReal × EReal := (row s.1 i, s.2.1 (ix2 i 0), s.2.2 (ix2 i 0))

/-- The row's state after the twenty rounds of the counting search. -/
theorem part_exact (d : FVec Ideal S1000x1000 .f32) (i : Fin 1000) :
    part (exact d) i = Rank.step^[20] (row d i, 0, k0_pay9 (F := Ideal) (ix2 i 0)) := by
  have h : Function.Semiconj (fun s => part s i)
      (fun x => (k0_pay13 (F := Ideal) x.1, k0_pay12 (F := Ideal) x.1 x.2.1, k0_pay11 (F := Ideal) x.1 x.2.1 x.2.2)) Rank.step := fun x => by
    refine Prod.ext ?_ (Prod.ext ?_ ?_)
    · funext j; exact Pay.pay13 x.1 i j
    · exact Pay.pay12 x.1 x.2.1 i
    · exact Pay.pay11 x.1 x.2.1 x.2.2 i
  have e : exact d = (fun x => (k0_pay13 (F := Ideal) x.1, k0_pay12 (F := Ideal) x.1 x.2.1, k0_pay11 (F := Ideal) x.1 x.2.1 x.2.2))^[20]
      (d, k0_pay8, k0_pay9) := fold_const 20 _ _
  rw [e]
  refine ((h.iterate_right 20) (d, k0_pay8, k0_pay9)).trans (congrArg _ ?_)
  exact Prod.ext rfl (Prod.ext (Pay.pay8 i) rfl)

/-- The threshold separates the twenty nearest in every row. -/
theorem thr_good (d : FVec Ideal S1000x1000 .f32) (r : Fin 1000 → Fin 1000 → ℝ) (hd : ∀ i j, d (ix2 i j) = ((r i j : ℝ) : EReal))
    (i : Fin 1000) : ∃ τ : ℝ, thr d (ix2 i 0) = ((τ : ℝ) : EReal) ∧ Rank.Good (r i) τ := by
  have hrow : ∀ i, row d i = fun j => ((r i j : ℝ) : EReal) := fun i => funext fun j => hd i j
  unfold thr
  by_cases hn : needExact d = 1#1
  · rw [if_pos hn]
    have h := part_exact d i
    rw [hrow] at h
    obtain ⟨τ, h1, h2⟩ := Rank.good_iterate (r i) (k0_pay9 (F := Ideal) (ix2 i 0))
    refine ⟨τ, ?_, h2⟩
    rw [← h] at h1
    exact h1
  · rw [if_neg hn]
    unfold needExact at hn
    rw [flag] at hn
    have hle : k0_pay7 (F := Ideal) (struck d) ≤ ((19 : ℝ) : EReal) := by
      rw [← Const.nineteen]; exact not_lt.mp hn
    rw [Pay.pay7] at hle
    have hi := (Finset.le_sup (f := fun q : Fin 1000 × Fin 1 => ∑ j, (if struck d (ix2 q.1 j) = ⊤ then (1 : EReal) else 0))
      (Finset.mem_univ (i, (0 : Fin 1)))).trans hle
    obtain ⟨R, hR, hc⟩ := Rank.struck_iterate (r i) 19
    rw [← hrow, ← row_struck] at hR
    have hcount := hR.count
    have hi' : ((R.card : ℝ) : EReal) ≤ ((19 : ℝ) : EReal) := by rw [← hcount]; exact hi
    have h19 : R.card ≤ 19 := by
      have := EReal.coe_le_coe_iff.mp hi'
      exact_mod_cast this
    obtain ⟨τ, h1, h2⟩ := Rank.good_of_count hR (by omega) h19
    refine ⟨τ, ?_, h2⟩
    rw [Pay.pay6]
    exact h1

/-- A count of ones is the number of positions. -/
theorem boole (q : Fin 1000 → Prop) [DecidablePred q] :
    (∑ j, if q j then (1 : EReal) else 0) = (((Finset.univ.filter q).card : ℝ) : EReal) := by
  rw [Finset.sum_boole]; simp

/-- The comparison of the counts, on natural numbers. -/
theorem tie (q s : Fin 1000 → Prop) [DecidablePred q] [DecidablePred s] :
    (if (∑ k, if q k then (1 : EReal) else 0) < ((20 : ℝ) : EReal) - ∑ k, (if s k then (1 : EReal) else 0) then (1 : EReal) else 0)
      = if (Finset.univ.filter s).card + (Finset.univ.filter q).card < 20 then 1 else 0 := by
  refine if_congr ?_ rfl rfl
  rw [boole, boole, ← EReal.coe_sub, EReal.coe_lt_coe_iff, lt_sub_iff_add_lt']
  exact_mod_cast Iff.rfl

/-- The bound on the counts, on natural numbers. -/
theorem count_le (q s : Fin 1000 → Prop) [DecidablePred q] [DecidablePred s]
    (h : (∑ k, if s k then (1 : EReal) else 0) + (∑ k, if q k then (1 : EReal) else 0) ≤ ((20 : ℝ) : EReal)) :
    (Finset.univ.filter s).card + (Finset.univ.filter q).card ≤ 20 := by
  rw [boole, boole, ← EReal.coe_add, EReal.coe_le_coe_iff] at h
  exact_mod_cast h

/-- The bound on the counts of a row, when the matrix has no row with more than twenty entries. -/
theorem row_le (d : FVec Ideal S1000x1000 .f32) (ho : ¬ overfull d = 1#1) (i : Fin 1000) :
    (∑ j, (if d (ix2 i j) < thr d (ix2 i 0) then (1 : EReal) else 0))
      + (∑ j, (if d (ix2 i j) = thr d (ix2 i 0) then (1 : EReal) else 0)) ≤ ((20 : ℝ) : EReal) := by
  unfold overfull at ho
  rw [flag] at ho
  have hle : k0_pay17 (F := Ideal) d (thr d) ≤ ((20 : ℝ) : EReal) := by
    rw [← Const.twenty]; exact not_lt.mp ho
  rw [Pay.pay17] at hle
  exact (Finset.le_sup (f := fun q : Fin 1000 × Fin 1 => (∑ j, (if d (ix2 q.1 j) < thr d (ix2 q.1 0) then (1 : EReal) else 0))
    + ∑ j, (if d (ix2 q.1 j) = thr d (ix2 q.1 0) then (1 : EReal) else 0)) (Finset.mem_univ (i, (0 : Fin 1)))).trans hle

open scoped Classical in
/-- The neighbours' matrix. -/
theorem matrix (d : FVec Ideal S1000x1000 .f32) (r : Fin 1000 → Fin 1000 → ℝ) (hd : ∀ i j, d (ix2 i j) = ((r i j : ℝ) : EReal))
    (i j : Fin 1000) : k0_pay20 (F := Ideal) d (thr d) (keep d) (ix2 i j) = ((Spec.ind (Rank.rank (r i) j < 20) : ℝ) : EReal) := by
  obtain ⟨τ, hτ, hg⟩ := thr_good d r hd i
  have hlt : ∀ k, d (ix2 i k) < thr d (ix2 i 0) ↔ r i k < τ := fun k => by rw [hτ, hd, EReal.coe_lt_coe_iff]
  have heq : ∀ k, d (ix2 i k) = thr d (ix2 i 0) ↔ r i k = τ := fun k => by rw [hτ, hd, EReal.coe_eq_coe_iff]
  rw [Pay.pay20]
  rcases lt_trichotomy (r i j) τ with h | h | h
  · rw [if_pos ((hlt j).mpr h), if_neg (fun e => h.ne ((heq j).mp e)), zero_mul, add_zero, Spec.ind, if_pos (Rank.rank_lt_of_lt hg h)]; rfl
  · rw [if_neg (fun e => h.not_lt ((hlt j).mp e)), if_pos ((heq j).mpr h), one_mul, zero_add]
    unfold keep
    by_cases ho : overfull d = 1#1
    · rw [if_pos ho, Pay.pay18, tie, Spec.ind, Rank.rank_eq_of_eq (r i) τ j h]
      split_ifs with h1 h2 h2
      · rfl
      · exact absurd (by convert h1 using 2 <;> exact congrArg Finset.card (Finset.ext fun k => by simp only [Finset.mem_filter, Finset.mem_univ, true_and, hlt, heq])) h2
      · exact absurd (by convert h2 using 2 <;> exact congrArg Finset.card (Finset.ext fun k => by simp only [Finset.mem_filter, Finset.mem_univ, true_and, hlt, heq])) h1
      · rfl
    · rw [if_neg ho, Pay.pay19]
      have hc := count_le _ _ (row_le d ho i)
      have e1 : (Finset.univ.filter fun k => d (ix2 i k) < thr d (ix2 i 0)) = Finset.univ.filter fun k => r i k < τ :=
        Finset.filter_congr fun k _ => hlt k
      have e2 : (Finset.univ.filter fun k => d (ix2 i k) = thr d (ix2 i 0)) = Finset.univ.filter fun k => r i k = τ :=
        Finset.filter_congr fun k _ => heq k
      rw [Spec.ind, if_pos (Rank.rank_lt_of_le h (by rw [← e1, ← e2]; convert hc))]; rfl
  · rw [if_neg (fun e => h.not_gt ((hlt j).mp e)), if_neg (fun e => h.ne' ((heq j).mp e)), zero_mul, add_zero, Spec.ind,
      if_neg (not_lt.mpr (Rank.le_rank_of_lt hg h))]; rfl

end Cert.Nbr

end

end
-- ==== Proof.Pay2.lean ====
module

public import proofs.«01_k».proof.Proof.Const
public import proofs.«01_k».proof.Proof.Gen.KernelIdeal.Skeleton
public import Idealize.ShloMosaic.Lib.Pointwise

@[expose] public section

set_option maxRecDepth 16384

/-! # The first call's results, at an entry -/

noncomputable section

namespace Cert.Pay

open Cert.KernelIdeal Cert.KernelIdeal.Gen
open Idealize.ShloMosaic

/-- The sums of the neighbours' parts, at an entry. -/
theorem pay21 (w : S1000x64.Idx → EReal) (x : S1000x1000.Idx → EReal) (t : S1000x1.Idx → EReal) (k : S1000x1000.Idx → EReal) (i : Fin 1000)
    (c : Fin 64) : k0_pay21 (F := Ideal) w x t k (ix2 i c) = ∑ j, k0_pay20 (F := Ideal) x t k (ix2 i j) * w (ix2 j c) := by
  pointwise [k0_pay21]

/-- The squares of the neighbours' parts summed over the edges. -/
theorem pay22 (w : S1000x64.Idx → EReal) (x : S1000x1000.Idx → EReal) (t : S1000x1.Idx → EReal) (k : S1000x1000.Idx → EReal)
    (c : Fin 64) : k0_pay22 (F := Ideal) w x t k (ix2 0 c)
      = ∑ j, (∑ i, k0_pay20 (F := Ideal) x t k (ix2 i j)) * (w (ix2 j c) * w (ix2 j c)) := by
  pointwise [k0_pay22]

/-- The queries' parts summed. -/
theorem pay23 (w : S1000x64.Idx → EReal) (c : Fin 64) : k0_pay23 (F := Ideal) w (ix2 0 c) = ∑ i, w (ix2 i c) := by
  pointwise [k0_pay23]

/-- The queries' parts squared and summed. -/
theorem pay24 (w : S1000x64.Idx → EReal) (c : Fin 64) : k0_pay24 (F := Ideal) w (ix2 0 c) = ∑ i, w (ix2 i c) * w (ix2 i c) := by
  pointwise [k0_pay24]

/-- The neighbours' parts summed over the edges. -/
theorem pay25 (w : S1000x64.Idx → EReal) (x : S1000x1000.Idx → EReal) (t : S1000x1.Idx → EReal) (k : S1000x1000.Idx → EReal)
    (c : Fin 64) : k0_pay25 (F := Ideal) w x t k (ix2 0 c) = ∑ i, k0_pay21 (F := Ideal) w x t k (ix2 i c) := by
  pointwise [k0_pay25]

/-- The sum of the features, from its parts. -/
theorem pay27 (a b : S1x64.Idx → EReal) (c : Fin 64) :
    k0_pay27 (F := Ideal) a b (k0_pay26 (F := Ideal)) (ix3 0 0 c) = b (ix2 0 c) + ((20 : ℝ) : EReal) * a (ix2 0 c) := by
  pointwise [k0_pay27, k0_pay26]
  rw [Const.twenty]

/-- The sum of the squared features, from its parts. -/
theorem pay28 (w s : S1000x64.Idx → EReal) (a b : S1x64.Idx → EReal) (c : Fin 64) :
    k0_pay28 (F := Ideal) w s a b (ix3 0 0 c)
      = a (ix2 0 c) + ((2 : ℝ) : EReal) * (∑ i, w (ix2 i c) * s (ix2 i c)) + ((20 : ℝ) : EReal) * b (ix2 0 c) := by
  pointwise [k0_pay28]
  rw [Const.twenty, Const.two]

/-- The mask that is added to the queries' parts, at an entry. -/
theorem pay29 (x : S1000x1000.Idx → EReal) (i j : Fin 1000) :
    k0_pay29 (F := Ideal) x (ix2 i j) = (x (ix2 i j) - 1) * ⊤ := by
  pointwise [k0_pay29]
  rw [Const.big]

/-- The queries' parts are stored as they are. -/
theorem pay30 (x : S1000x64.Idx → EReal) (i : Fin 1000) (c : Fin 64) : k0_pay30 (F := Ideal) x (ix2 i c) = x (ix2 i c) := by
  pointwise [k0_pay30]

/-- The maxima start from minus infinity. -/
theorem pay31 (c : Fin 64) (j : Fin 1000) : k0_pay31 (F := Ideal) (ix2 c j) = (⊥ : EReal) := by
  pointwise [k0_pay31]
  rw [Const.bot]

/-- Forty queries more in the maxima. -/
theorem pay32 (a : S64x1000.Idx → EReal) (x : S40x1000.Idx → EReal) (t : S40x64.Idx → EReal) (c : Fin 64) (j : Fin 1000) :
    k0_pay32 (F := Ideal) a x t (ix2 c j) = max (a (ix2 c j)) (Finset.univ.sup fun q : Fin 40 => x (ix2 q j) + t (ix2 q c)) := by
  pointwise [k0_pay32]
  rw [Const.bot]; rfl

/-- The maxima with the neighbours' parts added. -/
theorem pay33 (w : S1000x64.Idx → EReal) (a : S64x1000.Idx → EReal) (j : Fin 1000) (c : Fin 64) :
    k0_pay33 (F := Ideal) w a (ix2 j c) = a (ix2 c j) + w (ix2 j c) := by
  pointwise [k0_pay33]

end Cert.Pay

end

end
-- ==== Proof.Graph.lean ====
module

public import proofs.«01_k».proof.Proof.Nbr
public import proofs.«01_k».proof.Proof.Pay2
public import Idealize.ShloMosaic.Lib.Pipeline.ValueKit.Tiles

@[expose] public section

set_option maxRecDepth 16384

/-! # The first call's results on one graph -/

noncomputable section

namespace Cert.Graph

open Cert.KernelIdeal Cert.KernelIdeal.Gen Cert.KernelIdeal.Body
open Idealize.ShloMosaic

/-- Every point has twenty neighbours. -/
theorem count_near (p : Fin 1000 → Fin 3 → ℝ) (i : Fin 1000) : ∑ j, Spec.ind (Spec.near p i j) = 20 := by
  classical
  have hB := Rank.rank_sortedFrom (Spec.dist p i) (fun a b => decide (Spec.dist p i a < Spec.dist p i b)) (fun a b => by simp)
  have hbij : Function.Bijective (sortedFrom fun a b : Fin 1000 => decide (Spec.dist p i a < Spec.dist p i b)) :=
    ⟨sortedFrom_injective _, sortedFrom_surjective _⟩
  rw [← hbij.sum_comp]
  simp only [Spec.near, hB, Spec.ind]
  rw [Finset.sum_boole]
  have : (Finset.univ.filter fun k : Fin 1000 => k.val < 20).card = 20 := by decide +kernel
  have h2 : (Finset.univ.filter fun k : Fin 1000 => k.val < 20) = (Finset.univ.filter fun k : Fin 1000 => k.val < 20) := rfl
  convert congrArg (Nat.cast : ℕ → ℝ) this using 1
  norm_num

/-- The sum over the edges, by its parts. -/
theorem esum_eq (p : Fin 1000 → Fin 3 → ℝ) (W : Fin 6 → Fin 64 → ℝ) (b : Fin 64 → ℝ) (c : Fin 64) :
    Spec.esum p W b c = (∑ i, ∑ j, Spec.ind (Spec.near p i j) * Spec.u p W b j c) + 20 * ∑ i, Spec.v p W i c := by
  unfold Spec.esum
  rw [Finset.mul_sum, ← Finset.sum_add_distrib]
  refine Finset.sum_congr rfl fun i _ => ?_
  simp only [mul_add, Finset.sum_add_distrib]
  rw [← Finset.sum_mul, count_near]

/-- The sum of the squares over the edges, by its parts. -/
theorem esq_eq (p : Fin 1000 → Fin 3 → ℝ) (W : Fin 6 → Fin 64 → ℝ) (b : Fin 64 → ℝ) (c : Fin 64) :
    Spec.esq p W b c = (∑ j, (∑ i, Spec.ind (Spec.near p i j)) * (Spec.u p W b j c * Spec.u p W b j c))
      + 2 * (∑ i, Spec.v p W i c * ∑ j, Spec.ind (Spec.near p i j) * Spec.u p W b j c) + 20 * ∑ i, Spec.v p W i c * Spec.v p W i c := by
  unfold Spec.esq
  have h1 : (∑ j, (∑ i, Spec.ind (Spec.near p i j)) * (Spec.u p W b j c * Spec.u p W b j c))
      = ∑ i, ∑ j, Spec.ind (Spec.near p i j) * (Spec.u p W b j c * Spec.u p W b j c) := by
    rw [Finset.sum_comm]; exact Finset.sum_congr rfl fun j _ => Finset.sum_mul _ _ _
  rw [h1, Finset.mul_sum, Finset.mul_sum, ← Finset.sum_add_distrib, ← Finset.sum_add_distrib]
  refine Finset.sum_congr rfl fun i _ => ?_
  rw [← count_near p i, Finset.mul_sum, Finset.mul_sum, Finset.sum_mul, ← Finset.sum_add_distrib, ← Finset.sum_add_distrib]
  refine Finset.sum_congr rfl fun j _ => ?_
  ring

variable (p : Fin 1000 → Fin 3 → ℝ) (W : Fin 6 → Fin 64 → ℝ) (b : Fin 64 → ℝ)
variable (x : FVec Ideal S1000x3 .f32) (y : FVec Ideal S8x64 .f32) (z : FVec Ideal S1x64 .f32)

/-- The inputs of a graph are real numbers. -/
structure Holds : Prop where
  /-- the points -/
  pos : ∀ i k, x (ix2 i k) = ((p i k : ℝ) : EReal)
  /-- the weights -/
  w : ∀ (k : Fin 6) c, y (ix2 ⟨k.val, by omega⟩ c) = ((W k c : ℝ) : EReal)
  /-- the offset -/
  off : ∀ c, z (ix2 0 c) = ((b c : ℝ) : EReal)

variable {p W b x y z}

/-- The neighbours' part. -/
theorem u_eq (h : Holds p W b x y z) (j : Fin 1000) (c : Fin 64) :
    k0_pay2 (F := Ideal) x y z (ix2 j c) = ((Spec.u p W b j c : ℝ) : EReal) := by
  rw [Pay.pay2, Spec.u, EReal.coe_add, Const.coe_sum, h.off]
  refine congrArg (· + _) (Finset.sum_congr rfl fun k _ => ?_)
  rw [h.pos, h.w ⟨k.val, by omega⟩ c, h.w ⟨3 + k.val, by omega⟩ c, ← EReal.coe_sub, ← EReal.coe_mul]

/-- The queries' part. -/
theorem v_eq (h : Holds p W b x y z) (i : Fin 1000) (c : Fin 64) :
    k0_pay3 (F := Ideal) x y (ix2 i c) = ((Spec.v p W i c : ℝ) : EReal) := by
  rw [Pay.pay3, Spec.v, Const.coe_sum]
  refine Finset.sum_congr rfl fun k _ => ?_
  rw [h.pos, h.w ⟨3 + k.val, by omega⟩ c, ← EReal.coe_mul]

/-- The squared distances. -/
theorem dist_eq (h : Holds p W b x y z) (i j : Fin 1000) :
    k0_pay4 (F := Ideal) x (ix2 i j) = ((Spec.dist p i j : ℝ) : EReal) := by
  rw [Pay.pay4, Spec.dist]
  simp only [h.pos, ← EReal.coe_mul, ← Const.coe_sum, ← EReal.coe_add, ← EReal.coe_sub]

/-- The neighbours' matrix. -/
theorem mat_eq (h : Holds p W b x y z) (i j : Fin 1000) :
    k0_pay20 (F := Ideal) (k0_pay4 x) (thr (k0_pay4 x)) (keep (k0_pay4 x)) (ix2 i j) = ((Spec.ind (Spec.near p i j) : ℝ) : EReal) :=
  Nbr.matrix _ (Spec.dist p) (dist_eq h) i j

/-- The sums of the neighbours' parts over a query's edges. -/
theorem s_eq (h : Holds p W b x y z) (i : Fin 1000) (c : Fin 64) :
    k0_pay21 (F := Ideal) (k0_pay2 x y z) (k0_pay4 x) (thr (k0_pay4 x)) (keep (k0_pay4 x)) (ix2 i c)
      = ((∑ j, Spec.ind (Spec.near p i j) * Spec.u p W b j c : ℝ) : EReal) := by
  rw [Pay.pay21, Const.coe_sum]
  simp only [mat_eq h, u_eq h, EReal.coe_mul]

/-- The first call's sum of the features over a graph's edges. -/
theorem outS_eq (h : Holds p W b x y z) (c : Fin 64) : outS (F := Ideal) x y z (ix3 0 0 c) = ((Spec.esum p W b c : ℝ) : EReal) := by
  unfold outS
  rw [Pay.pay27, Pay.pay23, Pay.pay25, esum_eq, EReal.coe_add, EReal.coe_mul, Const.coe_sum, Const.coe_sum]
  simp only [s_eq h, v_eq h]

/-- The first call's sum of the squared features over a graph's edges. -/
theorem outQ_eq (h : Holds p W b x y z) (c : Fin 64) : outQ (F := Ideal) x y z (ix3 0 0 c) = ((Spec.esq p W b c : ℝ) : EReal) := by
  unfold outQ
  rw [Pay.pay28, Pay.pay22, Pay.pay24, esq_eq, EReal.coe_add, EReal.coe_add, EReal.coe_mul, EReal.coe_mul, Const.coe_sum, Const.coe_sum,
    Const.coe_sum]
  simp only [s_eq h, v_eq h, u_eq h, mat_eq h, EReal.coe_mul, Const.coe_sum]

/-- A fold of maxima is below a bound when everything in it is. -/
theorem foldl_max_le {ι : Type} (f : ι → EReal) (B : EReal) (l : List ι) (a : EReal) :
    l.foldl (fun e k => max e (f k)) a ≤ B ↔ a ≤ B ∧ ∀ k ∈ l, f k ≤ B := by
  induction l generalizing a with
  | nil => simp
  | cons k l ih => rw [List.foldl_cons, ih]; simp [and_assoc]

/-- A fold of vectors, at an entry. -/
theorem foldl_at {ι κ : Type} (g : ι → (κ → EReal) → (κ → EReal)) (f : ι → EReal) (j : κ) (hg : ∀ k x, g k x j = max (x j) (f k))
    (l : List ι) (x : κ → EReal) : l.foldl (fun x k => g k x) x j = l.foldl (fun e k => max e (f k)) (x j) := by
  induction l generalizing x with
  | nil => rfl
  | cons k l ih => rw [List.foldl_cons, List.foldl_cons, ih, hg]

/-- A row among the forty that a trip reads. -/
theorem rowsA_at (k : Fin k0_t3_loop.trips) (a : Vec Ideal S1000x1000 .f32) (q : Fin 40) (j : Fin 1000) (hk : 40 * k.val + q.val < 1000) :
    rowsA k a (ix2 q j) = a (ix2 ⟨40 * k.val + q.val, hk⟩ j) := by
  refine congrArg a (funext fun d => Fin.ext ?_)
  refine (Rect.idx_unit_val _ _ _ _ _).trans ?_
  simp only [k0_off1_eq]
  fin_cases d <;> simp

/-- A row among the forty that a trip reads. -/
theorem rowsV_at (k : Fin k0_t3_loop.trips) (a : Vec Ideal S1000x64 .f32) (q : Fin 40) (c : Fin 64) (hk : 40 * k.val + q.val < 1000) :
    rowsV k a (ix2 q c) = a (ix2 ⟨40 * k.val + q.val, hk⟩ c) := by
  refine congrArg a (funext fun d => Fin.ext ?_)
  refine (Rect.idx_unit_val _ _ _ _ _).trans ?_
  simp only [k0_off2_eq]
  fin_cases d <;> simp

/-- The segment maximum, at an entry. -/
theorem segMax_at (a : Vec Ideal S1000x1000 .f32) (v : Vec Ideal S1000x64 .f32) (c : Fin 64) (j : Fin 1000) :
    segMax (F := Ideal) a v (ix2 c j) = Finset.univ.sup fun i : Fin 1000 => a (ix2 i j) + v (ix2 i c) := by
  unfold segMax
  rw [Scf.fold_eq, foldl_at _ (fun k => Finset.univ.sup fun q : Fin 40 => rowsA k a (ix2 q j) + rowsV k v (ix2 q c)) (ix2 c j)
    (fun k x => Pay.pay32 x _ _ c j), Pay.pay31]
  refine eq_of_forall_ge_iff fun B => ?_
  rw [foldl_max_le]
  simp only [bot_le, true_and, Finset.sup_le_iff, Finset.mem_univ, forall_true_left, List.mem_finRange]
  have hT : k0_t3_loop.trips = 25 := by decide
  constructor
  · intro h i
    have hi : i.val < 1000 := i.isLt
    have := h ⟨i.val / 40, by omega⟩ ⟨i.val % 40, by omega⟩
    have e : 40 * (i.val / 40) + i.val % 40 < 1000 := by omega
    rw [rowsA_at _ _ _ _ e, rowsV_at _ _ _ _ e] at this
    have ei : (⟨40 * (i.val / 40) + i.val % 40, e⟩ : Fin 1000) = i := Fin.ext (Nat.div_add_mod _ _)
    rw [← ei]; exact this
  · intro h k q
    have hk := k.isLt
    have hq := q.isLt
    have e : 40 * k.val + q.val < 1000 := by omega
    rw [rowsA_at _ _ _ _ e, rowsV_at _ _ _ _ e]
    exact h _

/-- The mask: nothing where the matrix has a one, minus infinity where it has a zero. -/
theorem mask (q : Prop) :
    ((Spec.ind q : ℝ) : EReal) - 1 = 0 ∧ q ∨ ((Spec.ind q : ℝ) : EReal) - 1 = ((-1 : ℝ) : EReal) ∧ ¬ q := by
  by_cases h : q
  · left; refine ⟨?_, h⟩
    unfold Spec.ind; rw [if_pos h, ← EReal.coe_one, ← EReal.coe_sub, sub_self]; rfl
  · right; refine ⟨?_, h⟩
    unfold Spec.ind; rw [if_neg h, ← EReal.coe_one, ← EReal.coe_sub, zero_sub]

open scoped Classical in
/-- The first call's segment maxima. -/
theorem outW_eq (h : Holds p W b x y z) (j : Fin 1000) (c : Fin 64) : outW (F := Ideal) x y z (ix2 j c)
    = (Finset.univ.sup fun i => if Spec.near p i j then ((Spec.v p W i c : ℝ) : EReal) else ⊥) + ((Spec.u p W b j c : ℝ) : EReal) := by
  unfold outW
  rw [Pay.pay33, segMax_at, u_eq h]
  have e : ∀ i, k0_pay29 (F := Ideal) (adj x) (ix2 i j) + k0_pay30 (F := Ideal) (k0_pay3 x y) (ix2 i c)
      = if Spec.near p i j then ((Spec.v p W i c : ℝ) : EReal) else ⊥ := fun i => by
    rw [Pay.pay29, Pay.pay30, v_eq h]
    unfold adj
    rw [mat_eq h]
    rcases mask (Spec.near p i j) with ⟨h1, h2⟩ | ⟨h1, h2⟩
    · rw [h1, if_pos h2, zero_mul, zero_add]
    · rw [h1, if_neg h2, EReal.coe_mul_top_of_neg (by norm_num), EReal.bot_add]
  simp only [e]

end Cert.Graph

end

end
-- ==== Proof.Pay3.lean ====
module

public import proofs.«01_k».proof.Proof.Const
public import proofs.«01_k».proof.Proof.Gen.KernelIdeal.Skeleton
public import Idealize.ShloMosaic.Lib.Pointwise

@[expose] public section

set_option maxRecDepth 16384

/-! # The second call, at an entry -/

noncomputable section

namespace Cert.Pay

open Cert.KernelIdeal Cert.KernelIdeal.Gen
open Idealize.ShloMosaic

/-- The scale and shift of the second call, from the sums of a channel: mean, scale and shift. -/
def mean (a : S50x1x64.Idx → EReal) (c : Fin 64) : EReal := (∑ g : Fin 50, a (ix3 g 0 c)) * (((1000000 : ℝ)⁻¹ : ℝ) : EReal)

/-- The scale of the second call. -/
def scale (a b : S50x1x64.Idx → EReal) (g : S1x64.Idx → EReal) (c : Fin 64) : EReal :=
  g (ix2 0 c) * Ideal.rsqrt (mean b c - mean a c * mean a c + ((Const.eps : ℝ) : EReal))

/-- The affine map of the second call. -/
def affine (a b : S50x1x64.Idx → EReal) (g e : S1x64.Idx → EReal) (c : Fin 64) (x : EReal) : EReal :=
  x * scale a b g c + (e (ix2 0 c) - mean a c * scale a b g c)

/-- The leaky rectifier on extended reals. -/
def leaky (x : EReal) : EReal := if 0 ≤ x then x else ((Const.slope : ℝ) : EReal) * x

/-- The second call, at an entry. -/
theorem epi (a b : S50x1x64.Idx → EReal) (g e : S1x64.Idx → EReal) (w : S5000x64.Idx → EReal) (i : Fin 5000) (c : Fin 64) :
    k1_pay1 (F := Ideal) a b g e w (ix2 i c) = leaky (affine a b g e c (w (ix2 i c))) := by
  pointwise [k1_pay1]
  rw [Const.inv_e, Const.slope_eq, Const.eps_eq]
  rfl

end Cert.Pay

end

end
-- ==== Proof.Batch.lean ====
module

public import proofs.«01_k».proof.Proof.Graph
public import proofs.«01_k».proof.Proof.Pay3

@[expose] public section

set_option maxRecDepth 16384

/-! # The normalised features on real numbers -/

noncomputable section

namespace Cert.Spec

open Idealize.ShloMosaic

variable (P : Fin 50 → Fin 1000 → Fin 3 → ℝ) (W : Fin 6 → Fin 64 → ℝ) (b g : Fin 64 → ℝ) (e : Fin 64 → EReal)

/-- The feature of the edge from query `i` to neighbour `j` of graph `q`. -/
def feat (q : Fin 50) (i j : Fin 1000) (c : Fin 64) : ℝ := u (P q) W b j c + v (P q) W i c

/-- The mean of a channel over all edges. -/
def mean (c : Fin 64) : ℝ := (∑ q, esum (P q) W b c) * (1000000 : ℝ)⁻¹

/-- The variance of a channel over all edges. -/
def var (c : Fin 64) : ℝ := (∑ q, esq (P q) W b c) * (1000000 : ℝ)⁻¹ - mean P W b c * mean P W b c

/-- The scale of a channel. -/
def scale (c : Fin 64) : ℝ := g c * (√(var P W b c + Const.eps))⁻¹

/-- The normalised feature. -/
def norm (c : Fin 64) (x : ℝ) : EReal :=
  ((x * scale P W b g c : ℝ) : EReal) + (e c - ((mean P W b c * scale P W b g c : ℝ) : EReal))

open scoped Classical in
/-- The result: for point `j` of graph `q` the greatest rectified feature among the edges that end in it, minus infinity when
    there is none. -/
def out (q : Fin 50) (j : Fin 1000) (c : Fin 64) : EReal :=
  Finset.univ.sup fun i => if near (P q) i j then Pay.leaky (norm P W b g e c (feat P W b q i j c)) else ⊥

/-- The variance is the mean of the squared deviations. -/
theorem var_eq (c : Fin 64) : (∑ q, ∑ i, ∑ j, ind (near (P q) i j) * ((feat P W b q i j c - mean P W b c) * (feat P W b q i j c - mean P W b c)))
    * (1000000 : ℝ)⁻¹ = var P W b c := by
  have h : ∀ q, (∑ i, ∑ j, ind (near (P q) i j) * ((feat P W b q i j c - mean P W b c) * (feat P W b q i j c - mean P W b c)))
      = esq (P q) W b c - 2 * mean P W b c * esum (P q) W b c + 20000 * (mean P W b c * mean P W b c) := fun q => by
    have h1 : ∀ i j, ind (near (P q) i j) * ((feat P W b q i j c - mean P W b c) * (feat P W b q i j c - mean P W b c))
        = ind (near (P q) i j) * (feat P W b q i j c * feat P W b q i j c) - 2 * mean P W b c * (ind (near (P q) i j) * feat P W b q i j c)
          + ind (near (P q) i j) * (mean P W b c * mean P W b c) := fun i j => by ring
    simp only [h1, Finset.sum_add_distrib, Finset.sum_sub_distrib, ← Finset.mul_sum, ← Finset.sum_mul, Graph.count_near]
    rw [Finset.sum_const, Finset.card_univ, Fintype.card_fin]
    unfold esq esum feat
    simp only [nsmul_eq_mul]
    push_cast
    ring
  simp only [h, Finset.sum_add_distrib, Finset.sum_sub_distrib, ← Finset.mul_sum]
  rw [Finset.sum_const, Finset.card_univ, Fintype.card_fin]
  have hm : ∑ q, esum (P q) W b c = 1000000 * mean P W b c := by unfold mean; ring
  rw [hm]
  unfold var
  simp only [nsmul_eq_mul]
  push_cast
  ring

/-- The variance is not negative. -/
theorem var_nonneg (c : Fin 64) : 0 ≤ var P W b c := by
  rw [← var_eq]
  refine mul_nonneg (Finset.sum_nonneg fun q _ => Finset.sum_nonneg fun i _ => Finset.sum_nonneg fun j _ => mul_nonneg ?_ (mul_self_nonneg _)) (by norm_num)
  unfold ind; split <;> norm_num

/-- The number under the root is positive. -/
theorem var_pos (c : Fin 64) : 0 < var P W b c + Const.eps := by
  have := var_nonneg P W b c
  have := Const.eps_pos
  linarith

variable {P W b g e}

/-- The scale is positive when the weight of the channel is. -/
theorem scale_pos (c : Fin 64) (h : 0 < g c) : 0 < scale P W b g c :=
  mul_pos h (inv_pos.mpr (Real.sqrt_pos.mpr (var_pos P W b c)))

/-- The rectifier of minus infinity. -/
theorem leaky_bot : Pay.leaky ⊥ = ⊥ := by
  unfold Pay.leaky
  rw [if_neg (by simp), EReal.coe_mul_bot_of_pos Const.slope_pos]

/-- The rectifier is monotone. -/
theorem leaky_mono : Monotone Pay.leaky := by
  intro x y h
  have hs : (0 : EReal) ≤ ((Const.slope : ℝ) : EReal) := by exact_mod_cast Const.slope_pos.le
  unfold Pay.leaky
  by_cases hx : 0 ≤ x
  · rw [if_pos hx, if_pos (hx.trans h)]; exact h
  · rw [if_neg hx]
    by_cases hy : 0 ≤ y
    · rw [if_pos hy]
      refine le_trans ?_ hy
      have := mul_le_mul_of_nonneg_left (not_le.mp hx).le hs
      rwa [mul_zero] at this
    · rw [if_neg hy]
      exact mul_le_mul_of_nonneg_left h hs

open scoped Classical in
/-- Normalising and rectifying after the maximum is the maximum of the normalised and rectified features. -/
theorem out_eq (hg : ∀ c, 0 < g c) (q : Fin 50) (j : Fin 1000) (c : Fin 64) :
    Pay.leaky (((Finset.univ.sup fun i => if near (P q) i j then ((v (P q) W i c : ℝ) : EReal) else ⊥) + ((u (P q) W b j c : ℝ) : EReal))
        * ((scale P W b g c : ℝ) : EReal) + (e c - ((mean P W b c * scale P W b g c : ℝ) : EReal)))
      = out P W b g e q j c := by
  have hs := scale_pos (P := P) (W := W) (b := b) c (hg c)
  have hs' : (0 : EReal) ≤ ((scale P W b g c : ℝ) : EReal) := by exact_mod_cast hs.le
  let φ : EReal → EReal := fun x => Pay.leaky ((x + ((u (P q) W b j c : ℝ) : EReal)) * ((scale P W b g c : ℝ) : EReal)
    + (e c - ((mean P W b c * scale P W b g c : ℝ) : EReal)))
  have hmono : Monotone φ := fun x y h => leaky_mono (add_le_add (mul_le_mul_of_nonneg_right (add_le_add h le_rfl) hs') le_rfl)
  have hbot : φ ⊥ = ⊥ := by
    show Pay.leaky _ = _
    rw [EReal.bot_add, EReal.bot_mul_coe_of_pos hs, EReal.bot_add, leaky_bot]
  show φ _ = _
  rw [Finset.comp_sup_eq_sup_comp_of_is_total φ hmono hbot]
  unfold out
  refine Finset.sup_congr rfl fun i _ => ?_
  show φ (if _ then _ else _) = _
  split
  · show Pay.leaky _ = _
    rw [← EReal.coe_add, ← EReal.coe_mul]
    unfold norm feat
    rw [add_comm (u (P q) W b j c)]
  · exact hbot

/-- The second call's scale, from the sums over the edges. -/
theorem scale_coe (a d : Cert.KernelIdeal.S50x1x64.Idx → EReal) (γ : Cert.KernelIdeal.S1x64.Idx → EReal) (c : Fin 64)
    (ha : ∀ q, a (ix3 q 0 c) = ((esum (P q) W b c : ℝ) : EReal)) (hd : ∀ q, d (ix3 q 0 c) = ((esq (P q) W b c : ℝ) : EReal))
    (hγ : γ (ix2 0 c) = ((g c : ℝ) : EReal)) :
    Pay.mean a c = ((mean P W b c : ℝ) : EReal) ∧ Pay.scale a d γ c = ((scale P W b g c : ℝ) : EReal) := by
  have h1 : Pay.mean a c = ((mean P W b c : ℝ) : EReal) := by
    unfold Pay.mean mean
    simp only [ha, ← Const.coe_sum, ← EReal.coe_mul]
  have h2 : Pay.mean d c = (((∑ q, esq (P q) W b c) * (1000000 : ℝ)⁻¹ : ℝ) : EReal) := by
    unfold Pay.mean
    simp only [hd, ← Const.coe_sum, ← EReal.coe_mul]
  refine ⟨h1, ?_⟩
  unfold Pay.scale
  rw [h1, h2, hγ, ← EReal.coe_mul, ← EReal.coe_sub, ← EReal.coe_add, Ideal.rsqrt_coe]
  have hp := var_pos P W b c
  unfold var at hp
  rw [if_neg hp.not_gt, if_neg hp.ne', ← EReal.coe_mul]
  rfl

end Cert.Spec

end

end
-- ==== Proof.Host.lean ====
module

public import proofs.«01_k».proof.Proof.Run
public import Idealize.ShloMosaic.Lib.Pointwise

@[expose] public section

set_option maxRecDepth 16384

/-! # The buffers that the calls start from -/

noncomputable section

namespace Cert.HostVals

open Cert.KernelIdeal Cert.KernelIdeal.Gen Cert.KernelIdeal.Body
open Idealize.ShloMosaic Idealize.ShloMosaic.TcCoe

variable (m : (ℓ : Loc nD τ sig) → Buf (Elt Ideal) ℓ) (c : Dev nD)

/-- The first call finds the points as launched. -/
theorem v3_arg0 : V3 m c main_arg0 = m ((c.tc : Thread nD τ).loc main_arg0) :=
  (V3_of m c main_arg0 (by decide)).trans ((V2_of m c main_arg0 (by decide)).trans (V1_of m c main_arg0 (by decide)))

/-- The first call's weights are the argument's, with two rows of zeros below. -/
theorem v3_v0 (k : Fin 6) (q : Fin 64) : (V3 m c main_v0 : S8x64.Idx → EReal) (ix2 ⟨k.val, by omega⟩ q)
    = (m ((c.tc : Thread nD τ).loc main_arg2) : S6x64.Idx → EReal) (ix2 k q) := by
  have h : V3 m c main_v0 = pad S8x64 ![0, 0] ![2, 0] ![0, 0] (m ((c.tc : Thread nD τ).loc main_arg2) : S6x64.Idx → EReal)
      (sitofp (F := Ideal) .f32 (constantI S_ 32 0#32)) pads_S6x64_S8x64_020_000 h_S_ := by
    exact (V3_of m c main_v0 (by decide)).trans rfl
  rw [h]
  pointwise []
  refine dif_pos fun a => ?_
  have hk := k.isLt
  have hq := q.isLt
  match a with
  | ⟨0, _⟩ => exact ⟨Nat.zero_le _, by show (k.val - 0) % (0 + 1) = 0; omega, by show (k.val - 0) / (0 + 1) < 6; omega⟩
  | ⟨1, _⟩ => exact ⟨Nat.zero_le _, by show (q.val - 0) % (0 + 1) = 0; omega, by show (q.val - 0) / (0 + 1) < 64; omega⟩

/-- The first call's offset. -/
theorem v3_v1 (q : Fin 64) : (V3 m c main_v1 : S1x64.Idx → EReal) (ix2 0 q)
    = (m ((c.tc : Thread nD τ).loc main_arg3) : S64.Idx → EReal) (ix1 q) := by
  have h : V3 m c main_v1 = shapeCast S1x64 (V2 m c main_arg3 : S64.Idx → EReal) shapeCasts_S64_S1x64 := rfl
  rw [h]
  pointwise []
  exact congrFun ((V2_of m c main_arg3 (by decide)).trans (V1_of m c main_arg3 (by decide))) _

variable (o : Outs (F := Ideal))

/-- The weights of the normalisation as the second call finds them. -/
theorem v5_v3 (q : Fin 64) : (V5 m o c main_v3 : S1x64.Idx → EReal) (ix2 0 q)
    = (m ((c.tc : Thread nD τ).loc main_arg4) : S64.Idx → EReal) (ix1 q) := by
  have h : V5 m o c main_v3 = shapeCast S1x64 (V4 m o c main_arg4 : S64.Idx → EReal) shapeCasts_S64_S1x64 := rfl
  rw [h]
  pointwise []
  exact congrFun ((V4_of m o c main_arg4 (by decide)).trans ((V3_of m c main_arg4 (by decide)).trans
    ((V2_of m c main_arg4 (by decide)).trans (V1_of m c main_arg4 (by decide))))) _

/-- The offset of the normalisation as the second call finds it. -/
theorem v5_v4 (q : Fin 64) : (V5 m o c main_v4 : S1x64.Idx → EReal) (ix2 0 q)
    = (m ((c.tc : Thread nD τ).loc main_arg5) : S64.Idx → EReal) (ix1 q) := by
  have h : V5 m o c main_v4 = shapeCast S1x64 (V4 m o c main_arg5 : S64.Idx → EReal) shapeCasts_S64_S1x64 := rfl
  rw [h]
  pointwise []
  exact congrFun ((V4_of m o c main_arg5 (by decide)).trans ((V3_of m c main_arg5 (by decide)).trans
    ((V2_of m c main_arg5 (by decide)).trans (V1_of m c main_arg5 (by decide))))) _

end Cert.HostVals

end

end
-- ==== Proof.Value.lean ====
module

public import proofs.«01_k».proof.Proof.Arrays
public import proofs.«01_k».proof.Proof.Batch
public import proofs.«01_k».proof.Proof.Host

@[expose] public section

set_option maxRecDepth 16384

/-! # What the kernel leaves, from real inputs -/

noncomputable section

namespace Cert.Spec

open Idealize.ShloMosaic

/-- The points, weights and offsets hold real numbers, the weights of the normalisation too, and these are positive; the offset of
    the normalisation is any extended real. -/
structure Inputs (P : Fin 50 → Fin 1000 → Fin 3 → ℝ) (W : Fin 6 → Fin 64 → ℝ) (b g : Fin 64 → ℝ) (e : Fin 64 → EReal)
    (x0 : Cert.KernelIdeal.S50000x3.Idx → EReal) (x2 : Cert.KernelIdeal.S6x64.Idx → EReal)
    (x3 x4 x5 : Cert.KernelIdeal.S64.Idx → EReal) : Prop where
  /-- the points -/
  pos : ∀ (q : Fin 50) (i : Fin 1000) k, x0 (ix2 ⟨q.val * 1000 + i.val, by omega⟩ k) = ((P q i k : ℝ) : EReal)
  /-- the weights -/
  w : ∀ k c, x2 (ix2 k c) = ((W k c : ℝ) : EReal)
  /-- the offset -/
  off : ∀ c, x3 (ix1 c) = ((b c : ℝ) : EReal)
  /-- the weights of the normalisation -/
  gamma : ∀ c, x4 (ix1 c) = ((g c : ℝ) : EReal)
  /-- the offset of the normalisation -/
  beta : ∀ c, x5 (ix1 c) = e c
  /-- the weights are positive -/
  gpos : ∀ c, 0 < g c

end Cert.Spec

namespace Cert.Value

open Cert.KernelIdeal Cert.KernelIdeal.Gen Cert.KernelIdeal.Body
open Idealize.ShloMosaic Idealize.ShloMosaic.TcCoe

variable {P : Fin 50 → Fin 1000 → Fin 3 → ℝ} {W : Fin 6 → Fin 64 → ℝ} {b g : Fin 64 → ℝ} {e : Fin 64 → EReal}
variable (m : (ℓ : Loc nD τ sig) → Buf (Elt Ideal) ℓ) (c : Dev nD)

/-- The arguments of device `c` hold these real numbers. -/
abbrev Args (P : Fin 50 → Fin 1000 → Fin 3 → ℝ) (W : Fin 6 → Fin 64 → ℝ) (b g : Fin 64 → ℝ) (e : Fin 64 → EReal) : Prop :=
  Spec.Inputs P W b g e (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))

variable {m c}

/-- At grid point `q` the first call works on graph `q`. -/
theorem holds (h : Args m c P W b g e) (t : Fin cfg0.N) (q : Fin 50) (hq : t.val = q.val) :
    Graph.Holds (P q) W b (blk0_0 (V3 m c) t) (blk0_1 (V3 m c) t) (blk0_2 (V3 m c) t) where
  pos i k := by
    rw [Arrays.blk0_0_at, HostVals.v3_arg0]
    refine Eq.trans ?_ (h.pos q i k)
    exact congrArg (fun r => (m ((c.tc : Thread nD τ).loc main_arg0) : S50000x3.Idx → EReal) (ix2 r k)) (Fin.ext (by show t.val * 1000 + i.val = q.val * 1000 + i.val; rw [hq]))
  w k r := by
    rw [Arrays.blk0_1_eq]
    exact (HostVals.v3_v0 m c k r).trans (h.w k r)
  off r := by
    rw [Arrays.blk0_2_eq]
    exact (HostVals.v3_v1 m c r).trans (h.off r)

open scoped Classical in
/-- The segment maxima that the first call leaves. -/
theorem resW_at (h : Args m c P W b g e) (q : Fin 50) (j : Fin 1000) (r : Fin 64) :
    Arrays.resW (V3 m c) (ix2 ⟨q.val * 1000 + j.val, by omega⟩ r)
      = (Finset.univ.sup fun i => if Spec.near (P q) i j then ((Spec.v (P q) W i r : ℝ) : EReal) else ⊥) + ((Spec.u (P q) W b j r : ℝ) : EReal) := by
  have hj := j.isLt
  have ht : (Arrays.resWT (ix2 ⟨q.val * 1000 + j.val, by omega⟩ r)).val = q.val := by
    show (q.val * 1000 + j.val) / 1000 = q.val; omega
  rw [← Graph.outW_eq (holds h _ q ht) j r]
  unfold Arrays.resW
  refine congrArg _ (funext fun a => Fin.ext ?_)
  match a with
  | ⟨0, _⟩ => show (q.val * 1000 + j.val) % 1000 = j.val; omega
  | ⟨1, _⟩ => rfl

/-- The sums that the first call leaves. -/
theorem resS_at (h : Args m c P W b g e) (q : Fin 50) (r : Fin 64) :
    Arrays.resS (V3 m c) (ix3 q 0 r) = ((Spec.esum (P q) W b r : ℝ) : EReal) := by
  have ht : (Arrays.resST (ix3 q 0 r)).val = q.val := by show q.val / 1 = q.val; omega
  rw [← Graph.outS_eq (holds h _ q ht) r]
  unfold Arrays.resS
  refine congrArg _ (funext fun a => Fin.ext ?_)
  match a with
  | ⟨0, _⟩ => show q.val % 1 = 0; omega
  | ⟨1, _⟩ => rfl
  | ⟨2, _⟩ => rfl

/-- The sums of squares that the first call leaves. -/
theorem resQ_at (h : Args m c P W b g e) (q : Fin 50) (r : Fin 64) :
    Arrays.resQ (V3 m c) (ix3 q 0 r) = ((Spec.esq (P q) W b r : ℝ) : EReal) := by
  have ht : (Arrays.resQT (ix3 q 0 r)).val = q.val := by show q.val / 1 = q.val; omega
  rw [← Graph.outQ_eq (holds h _ q ht) r]
  unfold Arrays.resQ
  refine congrArg _ (funext fun a => Fin.ext ?_)
  match a with
  | ⟨0, _⟩ => show q.val % 1 = 0; omega
  | ⟨1, _⟩ => rfl
  | ⟨2, _⟩ => rfl

/-- The second call finds the first call's segment maxima. -/
theorem v5_0 : V5 m (outs m) c main_v2_0 = Arrays.resW (V3 m c) := by
  refine (V5_of m (outs m) c main_v2_0 (by decide)).trans ((V4_at0 m (outs m) c).trans ?_)
  exact (Pipeline.afterRegion_arr (dat0 (V3 m) c) (V3 m c) (launch0 : Pipeline.LaunchFacts (nD := nD) (τ := τ) cfgs 0).win.arr_inj 3).trans
    (Arrays.resW_final (V3 m) c)

/-- The second call finds the first call's sums. -/
theorem v5_1 : V5 m (outs m) c main_v2_1 = Arrays.resS (V3 m c) := by
  refine (V5_of m (outs m) c main_v2_1 (by decide)).trans ((V4_at1 m (outs m) c).trans ?_)
  exact (Pipeline.afterRegion_arr (dat0 (V3 m) c) (V3 m c) (launch0 : Pipeline.LaunchFacts (nD := nD) (τ := τ) cfgs 0).win.arr_inj 4).trans
    (Arrays.resS_final (V3 m) c)

/-- The second call finds the first call's sums of squares. -/
theorem v5_2 : V5 m (outs m) c main_v2_2 = Arrays.resQ (V3 m c) := by
  refine (V5_of m (outs m) c main_v2_2 (by decide)).trans ((V4_at2 m (outs m) c).trans ?_)
  exact (Pipeline.afterRegion_arr (dat0 (V3 m) c) (V3 m c) (launch0 : Pipeline.LaunchFacts (nD := nD) (τ := τ) cfgs 0).win.arr_inj 5).trans
    (Arrays.resQ_final (V3 m) c)

/-- The kernel's result, at an entry. -/
theorem result_at (h : Args m c P W b g e) (q : Fin 50) (j : Fin 1000) (r : Fin 64) :
    (result m c : S50000x64.Idx → EReal) (ix2 ⟨q.val * 1000 + j.val, by omega⟩ r) = Spec.out P W b g e q j r := by
  have hj := j.isLt
  have hq := q.isLt
  unfold result
  rw [Arrays.resE_final]
  unfold Arrays.resE
  set t := Arrays.resET (ix2 ⟨q.val * 1000 + j.val, by omega⟩ r) with ht
  have htv : t.val = (q.val * 1000 + j.val) / 5000 := rfl
  rw [Arrays.blk1_1_eq, Arrays.blk1_2_eq, Arrays.blk1_3_eq, Arrays.blk1_4_eq, v5_1, v5_2]
  refine (Pay.epi _ _ _ _ _ ⟨(q.val * 1000 + j.val) % 5000, Nat.mod_lt _ (by decide)⟩ r).trans ?_
  unfold Pay.affine
  obtain ⟨h1, h2⟩ := Spec.scale_coe (P := P) (W := W) (b := b) (g := g) (Arrays.resS (V3 m c)) (Arrays.resQ (V3 m c))
    (V5 m (outs m) c main_v3) r (fun q => resS_at h q r) (fun q => resQ_at h q r) ((HostVals.v5_v3 m c (outs m) r).trans (h.gamma r))
  rw [h1, h2, (HostVals.v5_v4 m c (outs m) r).trans (h.beta r), Arrays.blk1_0_at, v5_0, ← EReal.coe_mul]
  have e1 : (⟨t.val * 5000 + (q.val * 1000 + j.val) % 5000, Arrays.row1_0 t ⟨(q.val * 1000 + j.val) % 5000, Nat.mod_lt _ (by decide)⟩⟩ : Fin 50000)
      = ⟨q.val * 1000 + j.val, by omega⟩ := Fin.ext (by show t.val * 5000 + (q.val * 1000 + j.val) % 5000 = q.val * 1000 + j.val; rw [htv]; omega)
  have e2 := resW_at h q j r
  refine Eq.trans ?_ (Spec.out_eq (P := P) (W := W) (b := b) (e := e) h.gpos q j r)
  rw [← e2]
  exact congrArg (fun s => Pay.leaky (Arrays.resW (V3 m c) (ix2 s r) * _ + _)) e1

end Cert.Value

end

end
-- ==== Proof.Ref0.lean ====
module

public import proofs.«01_k».proof.Proof.Const
public import proofs.«01_k».proof.Proof.Gen.ReferenceIdeal.Read
public import Idealize.ShloMosaic.Lib.Pointwise

@[expose] public section

set_option maxRecDepth 16384

/-! # The reference's stages, at an entry -/

noncomputable section

namespace Cert.Ref

open Cert.ReferenceIdeal Cert.ReferenceIdeal.Gen Cert.ReferenceIdeal.Read
open Idealize.ShloMosaic

/-- The squared distances. -/
theorem v11_at (x : S50000x3.Idx → EReal) (q : Fin 50) (i j : Fin 1000) : val_main_v11 (F := Ideal) x (ix3 q i j)
    = (∑ k : Fin 3, x (ix2 ⟨q.val * 1000 + i.val, by omega⟩ k) * x (ix2 ⟨q.val * 1000 + i.val, by omega⟩ k))
      + (∑ k : Fin 3, x (ix2 ⟨q.val * 1000 + j.val, by omega⟩ k) * x (ix2 ⟨q.val * 1000 + j.val, by omega⟩ k))
      - ((2 : ℝ) : EReal) * ∑ k : Fin 3, x (ix2 ⟨q.val * 1000 + i.val, by omega⟩ k) * x (ix2 ⟨q.val * 1000 + j.val, by omega⟩ k) := by
  pointwise [val_main_v11, val_main_v10, val_main_v9, val_main_cst_0, val_main_v8, val_main_v7, val_main_v6, val_main_v5, val_main_v4,
    val_main_v3, val_main_v2, val_main_v1, val_main_v0, val_main_cst]
  rw [Const.two]

/-- A small number read as a signed word is itself. -/
theorem toInt_small (n : ℕ) (hn : n < 2 ^ 31) : (BitVec.ofNat 32 n).toInt = (n : ℤ) := by
  have hn' : (BitVec.ofNat 32 n).toNat = n := by rw [BitVec.toNat_ofNat]; exact Nat.mod_eq_of_lt (by omega)
  rw [BitVec.toInt_eq_toNat_of_lt (by rw [hn']; omega), hn']

/-- A small number is not negative as a signed word, so the wrap of negative positions leaves it. -/
theorem wrap_small (n : ℕ) (hn : n < 2 ^ 31) (y : BitVec 32) :
    Scalar.select (IntOp.cmpi CmpIPredicate.slt (BitVec.ofNat 32 n) 0#32) y (BitVec.ofNat 32 n) = BitVec.ofNat 32 n := by
  have h : IntOp.cmpi CmpIPredicate.slt (BitVec.ofNat 32 n) 0#32 = 0#1 := by
    have h1 : (BitVec.ofNat 32 n).slt 0#32 = false := by
      simp only [BitVec.slt, toInt_small n hn]
      simp
    show BitVec.ofBool ((BitVec.ofNat 32 n).slt 0#32) = 0#1
    rw [h1]; rfl
  rw [h]; rfl

/-- The position of the edge number `s` of query `i` of graph `q`. -/
def edge (q : Fin 50) (i : Fin 1000) (s : Fin 20) : Fin 1000000 := ⟨q.val * 20000 + i.val * 20 + s.val, by omega⟩

/-- The neighbour's row of an edge. -/
theorem v28_at (x : S50000x3.Idx → EReal) (q : Fin 50) (i : Fin 1000) (s : Fin 20) (j : Fin 1000)
    (h : val_main_indices (F := Ideal) x (ix3 q i s) = BitVec.ofNat 32 j.val) :
    val_main_v28 (F := Ideal) x (ix2 (edge q i s) 0) = BitVec.ofNat 32 (q.val * 1000 + j.val) := by
  pointwise [val_main_v28, val_main_v27, val_main_v26, val_main_v25, val_main_v24, val_main_v23, val_main_v19, val_main_v18, val_main_v17,
    val_main_v16, val_main_v15, val_main_v14, val_main_v13, val_main_c, val_main_c_1, val_main_c_2]
  have e1 : (⟨(edge q i s).val / 20000, by have := (edge q i s).isLt; omega⟩ : Fin 50) = q := Fin.ext (by
    show (q.val * 20000 + i.val * 20 + s.val) / 20000 = q.val; omega)
  have e2 : (⟨(edge q i s).val / 20 % 1000, by omega⟩ : Fin 1000) = i := Fin.ext (by
    show (q.val * 20000 + i.val * 20 + s.val) / 20 % 1000 = i.val; omega)
  have e3 : (⟨(edge q i s).val % 20, by omega⟩ : Fin 20) = s := Fin.ext (by
    show (q.val * 20000 + i.val * 20 + s.val) % 20 = s.val; omega)
  have e4 : (edge q i s).val / 20000 = q.val := congrArg Fin.val e1
  rw [e1, e2, e3, e4, h]
  have e5 : IntOp.addi (BitVec.ofNat 32 j.val) (IntOp.muli (BitVec.ofNat 32 q.val) 1000#32) = BitVec.ofNat 32 (q.val * 1000 + j.val) := by
    show BitVec.ofNat 32 j.val + BitVec.ofNat 32 q.val * BitVec.ofNat 32 1000 = _
    rw [← BitVec.ofNat_mul, ← BitVec.ofNat_add, add_comm]
  rw [e5, wrap_small _ (by omega)]

/-- The query's row of an edge. -/
theorem v35_at (q : Fin 50) (i : Fin 1000) (s : Fin 20) :
    val_main_v35 (F := Ideal) (ix2 (edge q i s) 0) = BitVec.ofNat 32 (q.val * 1000 + i.val) := by
  pointwise [val_main_v35, val_main_v34, val_main_v33, val_main_v32, val_main_v31, val_main_v30, val_main_c_3, val_main_c_4,
    val_main_v22, val_main_v21, val_main_v20]
  have e : (edge q i s).val / 20 = q.val * 1000 + i.val := by
    show (q.val * 20000 + i.val * 20 + s.val) / 20 = _; omega
  rw [e, wrap_small _ (by omega)]

/-- The features of an edge. -/
theorem v42_at (x : S50000x3.Idx → EReal) (w : S6x64.Idx → EReal) (b : S64.Idx → EReal) (e : Fin 1000000) (c : Fin 64) :
    val_main_v42 (F := Ideal) x w b (ix2 e c)
      = (∑ k : Fin 3, val_main_v29 (F := Ideal) x (ix2 e k) * w (ix2 ⟨k.val, by omega⟩ c))
        + (∑ k : Fin 3, (val_main_v36 (F := Ideal) x (ix2 e k) - val_main_v29 (F := Ideal) x (ix2 e k)) * w (ix2 ⟨3 + k.val, by omega⟩ c))
        + b (ix1 c) := by
  pointwise [val_main_v42, val_main_v41, val_main_v40, val_main_v39, val_main_v38, val_main_v37]

/-- The mean of a channel. -/
theorem v45_at (x : S50000x3.Idx → EReal) (w : S6x64.Idx → EReal) (b : S64.Idx → EReal) (c : Fin 64) :
    val_main_v45 (F := Ideal) x w b (ix1 c)
      = Ideal.div (∑ e : Fin 1000000, val_main_v42 (F := Ideal) x w b (ix2 e c)) ((1000000 : ℝ) : EReal) := by
  pointwise [val_main_v45, val_main_v44, val_main_cst_6, val_main_v43, val_main_cst_5]
  rw [Const.million]

/-- The variance of a channel. -/
theorem v46_at (x : S50000x3.Idx → EReal) (w : S6x64.Idx → EReal) (b : S64.Idx → EReal) (c : Fin 64) :
    val_main_v46 (F := Ideal) x w b (ix1 c)
      = Ideal.div (∑ e : Fin 1000000, (val_main_v42 (F := Ideal) x w b (ix2 e c) - val_main_v45 (F := Ideal) x w b (ix1 c))
          * (val_main_v42 (F := Ideal) x w b (ix2 e c) - val_main_v45 (F := Ideal) x w b (ix1 c))) ((1000000 : ℝ) : EReal) := by
  rw [v45_at]
  pointwise [val_main_v46, val_main_call0_v12, val_main_call0_v8, val_main_call0_cst_1, val_main_call0_v7, val_main_c_7,
    val_main_call0_cst_3, val_main_call0_v11, val_main_call0_v10, val_main_call0_v9, val_main_call0_v6, val_main_call0_v5,
    val_main_call0_v4, val_main_call0_v3, val_main_call0_v2, val_main_call0_cst_0, val_main_call0_v1, val_main_call0_v0,
    val_main_call0_cst, val_main_call0_cst_2]
  have hz : (FloatOps.sitofp (F := Ideal) FTy.f32 0#32 : EReal) = ((0 : ℝ) : EReal) := by
    show (((0#32 : BitVec 32).toInt : ℝ) : EReal) = _
    simp
  rw [hz, Const.million]
  have hm : ((1000000 : ℝ) : EReal) - ((0 : ℝ) : EReal) = ((1000000 : ℝ) : EReal) := by rw [← EReal.coe_sub, sub_zero]
  rw [hm, if_pos (by exact_mod_cast (by norm_num : (0 : ℝ) < 1000000))]

/-- The leaky rectifier, as the reference takes it. -/
def lrelu (y : EReal) : EReal := if 0 ≤ y then y else ((Const.slope : ℝ) : EReal) * y

/-- The normalised and rectified feature of an edge. -/
theorem v66_at (x : S50000x3.Idx → EReal) (w : S6x64.Idx → EReal) (b g d : S64.Idx → EReal) (e : Fin 1000000) (c : Fin 64) :
    val_main_v66 (F := Ideal) x w b g d (ix2 e c)
      = lrelu (Ideal.div (val_main_v42 (F := Ideal) x w b (ix2 e c) - val_main_v45 (F := Ideal) x w b (ix1 c))
          (Ideal.sqrt (val_main_v46 (F := Ideal) x w b (ix1 c) + ((Const.eps : ℝ) : EReal))) * g (ix1 c) + d (ix1 c)) := by
  pointwise [val_main_v66, val_main_v65, val_main_v64, val_main_cst_10, val_main_v63, val_main_v62, val_main_cst_9, val_main_v61,
    val_main_v60, val_main_v59, val_main_v58, val_main_v57, val_main_v56, val_main_v55, val_main_v54, val_main_v53, val_main_v52,
    val_main_v51, val_main_v50, val_main_cst_8, val_main_v49, val_main_v48, val_main_v47]
  rw [Const.slope_eq, Const.eps_eq]
  rfl

/-- What an edge offers to a point: its feature where it ends there, minus infinity elsewhere. -/
theorem v76_at (x : S50000x3.Idx → EReal) (w : S6x64.Idx → EReal) (b g d : S64.Idx → EReal) (q : Fin 50) (e : Fin 20000)
    (j n : Fin 1000) (c : Fin 64)
    (h : val_main_indices (F := Ideal) x (ix3 q ⟨e.val / 20, by omega⟩ ⟨e.val % 20, by omega⟩) = BitVec.ofNat 32 n.val) :
    val_main_v76 (F := Ideal) x w b g d (ix4 q e j c)
      = if n = j then val_main_v66 (F := Ideal) x w b g d (ix2 ⟨q.val * 20000 + e.val, by omega⟩ c) else ⊥ := by
  pointwise [val_main_v76, val_main_call2_v3, val_main_call2_v0, val_main_cst_11, val_main_call2_v2, val_main_v75, val_main_v67,
    val_main_call2_v1, val_main_v74, val_main_v73, val_main_v72, val_main_v71, val_main_v70, val_main_v69, val_main_v68]
  rw [h]
  have hn := n.isLt
  have hj := j.isLt
  have hc : IntOp.cmpi CmpIPredicate.eq (BitVec.ofNat 32 n.val) (BitVec.ofNat 32 j.val) = BitVec.ofBool (decide (n = j)) := by
    show BitVec.ofBool (BitVec.ofNat 32 n.val == BitVec.ofNat 32 j.val) = _
    congr 1
    rw [beq_eq_decide]
    congr 1
    apply propext
    constructor
    · intro he
      have := congrArg BitVec.toNat he
      rw [BitVec.toNat_ofNat, BitVec.toNat_ofNat, Nat.mod_eq_of_lt (by omega), Nat.mod_eq_of_lt (by omega)] at this
      exact Fin.ext this
    · intro he; rw [he]
  rw [hc]
  by_cases hnj : n = j
  · rw [if_pos hnj]; simp [hnj, Scalar.select]
  · rw [if_neg hnj]
    have : BitVec.ofBool (decide (n = j)) = 0#1 := by simp [hnj]
    rw [this]
    exact Const.bot

/-- The greatest offer to a point. -/
theorem v78_at (x : S50000x3.Idx → EReal) (w : S6x64.Idx → EReal) (b g d : S64.Idx → EReal) (q : Fin 50) (j : Fin 1000) (c : Fin 64) :
    val_main_v78 (F := Ideal) x w b g d (ix2 ⟨q.val * 1000 + j.val, by omega⟩ c)
      = Finset.univ.sup fun e : Fin 20000 => val_main_v76 (F := Ideal) x w b g d (ix4 q e j c) := by
  pointwise [val_main_v78, val_main_v77, val_main_cst_12]
  rw [Const.bot]
  rfl

end Cert.Ref

end

end
-- ==== Proof.Topk.lean ====
module

public import Idealize.ShloMosaic.Lib.Pointwise

@[expose] public section

/-! # The greatest entries of a row, and their positions -/

noncomputable section

namespace Cert.Ref

open Idealize.ShloMosaic

variable {n0 n1 n2 n3 : ℕ}

/-- Moving an entry's last coordinate. -/
theorem along_ix3 (hd : 2 < (⟨3, ![n0, n1, n2]⟩ : Shape).rank) (q : Fin n0) (i : Fin n1) (j k : Fin n2) :
    Shape.Idx.along (s := ⟨3, ![n0, n1, n2]⟩) (ix3 q i j) ⟨2, hd⟩ k = ix3 q i k := by
  funext a
  match a with
  | ⟨0, _⟩ => rfl
  | ⟨1, _⟩ => rfl
  | ⟨2, _⟩ => rfl

/-- The positions that the choice of the greatest entries of a row leaves: those of the row sorted. -/
theorem topK_at {α : Type} (gt : α → α → BitVec 1) (x : (⟨3, ![n0, n1, n2]⟩ : Shape).Idx → α)
    (hs : (⟨3, ![n0, n1, n2]⟩ : Shape).Slices (fun _ => 0) ⟨3, ![n0, n1, n3]⟩) (q : Fin n0) (i : Fin n1) (s : Fin n3) (s' : Fin n2)
    (hss : s'.val = s.val) :
    (Host.topK ⟨3, ![n0, n1, n3]⟩ 2 gt x hs).2 (ix3 q i s)
      = BitVec.ofNat 32 (sortedFrom (fun k k' : Fin n2 => gt (x (ix3 q i k)) (x (ix3 q i k')) == 1#1) s').val := by
  have hd : 2 < (⟨3, ![n0, n1, n2]⟩ : Shape).rank := show 2 < 3 by norm_num
  unfold Host.topK Host.sort2 extractStridedSlice
  simp only [dif_pos hd]
  generalize hJ : (fun a : Fin (⟨3, ![n0, n1, n2]⟩ : Shape).rank => (⟨0 + (ix3 q i s (a.cast hs.1.symm)).val, _⟩ : Fin ((⟨3, ![n0, n1, n2]⟩ : Shape).size a))) = J
  have hj : J = ix3 q i s' := by
    rw [← hJ]
    funext a
    match a with
    | ⟨0, _⟩ => exact Fin.ext (Nat.zero_add _)
    | ⟨1, _⟩ => exact Fin.ext (Nat.zero_add _)
    | ⟨2, _⟩ => exact Fin.ext ((Nat.zero_add _).trans hss.symm)
  have hp := congrFun hJ ⟨2, hd⟩
  dsimp only at hp
  rw [hp, hj]
  have hal : ∀ k : Fin ((⟨3, ![n0, n1, n2]⟩ : Shape).size ⟨2, hd⟩), (ix3 q i s').along ⟨2, hd⟩ k = ix3 q i k := fun k => along_ix3 hd q i s' k
  simp only [hal]
  rfl

end Cert.Ref

end

end
-- ==== Proof.Ref1.lean ====
module

public import proofs.«01_k».proof.Proof.Value
public import proofs.«01_k».proof.Proof.Ref0
public import proofs.«01_k».proof.Proof.Topk
public import Idealize.ShloMosaic.Lib.Routing.Ops

@[expose] public section

set_option maxRecDepth 16384

/-! # The reference from real inputs -/

noncomputable section

namespace Cert.Ref

open Cert.ReferenceIdeal Cert.ReferenceIdeal.Gen Cert.ReferenceIdeal.Read
open Idealize.ShloMosaic

variable {P : Fin 50 → Fin 1000 → Fin 3 → ℝ} {W : Fin 6 → Fin 64 → ℝ} {b g : Fin 64 → ℝ} {e : Fin 64 → EReal}
variable {x0 : S50000x3.Idx → EReal} {x2 : S6x64.Idx → EReal} {x3 x4 x5 : S64.Idx → EReal}

/-- The point that stands at position `k` when the points are sorted by their distance from point `i`. -/
def order (p : Fin 1000 → Fin 3 → ℝ) (i : Fin 1000) : Fin 1000 → Fin 1000 :=
  sortedFrom fun a b => decide (Spec.dist p i a < Spec.dist p i b)

/-- Its rank is its position. -/
theorem rank_order (p : Fin 1000 → Fin 3 → ℝ) (i k : Fin 1000) : Rank.rank (Spec.dist p i) (order p i k) = k.val :=
  Rank.rank_sortedFrom _ _ (fun a b => by simp) k

/-- Every point has one position. -/
theorem order_bij (p : Fin 1000 → Fin 3 → ℝ) (i : Fin 1000) : Function.Bijective (order p i) :=
  ⟨sortedFrom_injective _, sortedFrom_surjective _⟩

/-- Neighbour number `s` of point `i`. -/
def nbr (p : Fin 1000 → Fin 3 → ℝ) (i : Fin 1000) (s : Fin 20) : Fin 1000 := order p i ⟨s.val, by omega⟩

/-- The negated squared distances, which the reference sorts by. -/
theorem v12_eq (h : Spec.Inputs P W b g e x0 x2 x3 x4 x5) (q : Fin 50) (i j : Fin 1000) :
    val_main_v12 (F := Ideal) x0 (ix3 q i j) = ((-Spec.dist (P q) i j : ℝ) : EReal) := by
  rw [val_main_v12_apply, v11_at]
  simp only [h.pos, ← EReal.coe_mul, ← Const.coe_sum, ← EReal.coe_add, ← EReal.coe_sub]
  exact (EReal.coe_neg _).symm

/-- The reference's choice of neighbours. -/
theorem indices_eq (h : Spec.Inputs P W b g e x0 x2 x3 x4 x5) (q : Fin 50) (i : Fin 1000) (s : Fin 20) :
    val_main_indices (F := Ideal) x0 (ix3 q i s) = BitVec.ofNat 32 (nbr (P q) i s).val := by
  unfold val_main_indices
  refine (topK_at (FloatOps.cmpfTotal (F := Ideal) .gt) (val_main_v12 (F := Ideal) x0) _ q i s ⟨s.val, by omega⟩ rfl).trans ?_
  unfold nbr order
  refine congrArg (fun B => BitVec.ofNat 32 (sortedFrom B (⟨s.val, by omega⟩ : Fin 1000)).val) (funext fun k => funext fun k' => ?_)
  rw [v12_eq h, v12_eq h, Ideal.cmpfTotal_def]
  show (BitVec.ofBool (decide (((-Spec.dist (P q) i k' : ℝ) : EReal) < ((-Spec.dist (P q) i k : ℝ) : EReal))) == 1#1) = _
  rw [decide_eq_decide.mpr (show ((-Spec.dist (P q) i k' : ℝ) : EReal) < ((-Spec.dist (P q) i k : ℝ) : EReal) ↔ Spec.dist (P q) i k < Spec.dist (P q) i k' by
    rw [EReal.coe_lt_coe_iff, neg_lt_neg_iff])]
  cases decide (Spec.dist (P q) i k < Spec.dist (P q) i k') <;> rfl

/-- The gathered neighbour of an edge. -/
theorem v29_eq (h : Spec.Inputs P W b g e x0 x2 x3 x4 x5) (q : Fin 50) (i : Fin 1000) (s : Fin 20) (k : Fin 3) :
    val_main_v29 (F := Ideal) x0 (ix2 (edge q i s) k) = ((P q (nbr (P q) i s) k : ℝ) : EReal) := by
  unfold val_main_v29
  rw [← h.pos q (nbr (P q) i s) k]
  rw [ix2_eq_valueIdx, ix2_eq_valueIdx]
  exact Routing.gather_row (nb := 50000) (B := 3) (n := 1000000) gather_S50000x3_S1000000x1_S1000000x3_1_0_n_n_0_1_13 rfl rfl rfl rfl rfl x0 _ (edge q i s) k
    ⟨q.val * 1000 + (nbr (P q) i s).val, by omega⟩ (by rw [← ix2_eq_valueIdx]; exact v28_at x0 q i s _ (indices_eq h q i s)) (by decide)

/-- The gathered query of an edge. -/
theorem v36_eq (h : Spec.Inputs P W b g e x0 x2 x3 x4 x5) (q : Fin 50) (i : Fin 1000) (s : Fin 20) (k : Fin 3) :
    val_main_v36 (F := Ideal) x0 (ix2 (edge q i s) k) = ((P q i k : ℝ) : EReal) := by
  unfold val_main_v36
  rw [← h.pos q i k]
  rw [ix2_eq_valueIdx, ix2_eq_valueIdx]
  exact Routing.gather_row (nb := 50000) (B := 3) (n := 1000000) gather_S50000x3_S1000000x1_S1000000x3_1_0_n_n_0_1_13 rfl rfl rfl rfl rfl x0 _ (edge q i s) k
    ⟨q.val * 1000 + i.val, by omega⟩ (by rw [← ix2_eq_valueIdx]; exact v35_at q i s) (by decide)

/-- The feature of an edge. -/
theorem v42_eq (h : Spec.Inputs P W b g e x0 x2 x3 x4 x5) (q : Fin 50) (i : Fin 1000) (s : Fin 20) (c : Fin 64) :
    val_main_v42 (F := Ideal) x0 x2 x3 (ix2 (edge q i s) c) = ((Spec.feat P W b q i (nbr (P q) i s) c : ℝ) : EReal) := by
  rw [v42_at]
  simp only [v29_eq h, v36_eq h]
  have hw : ∀ k : Fin 3, x2 (ix2 ⟨k.val, by omega⟩ c) = ((W ⟨k.val, by omega⟩ c : ℝ) : EReal) := fun k => h.w ⟨k.val, by omega⟩ c
  have hw' : ∀ k : Fin 3, x2 (ix2 ⟨3 + k.val, by omega⟩ c) = ((W ⟨3 + k.val, by omega⟩ c : ℝ) : EReal) := fun k => h.w ⟨3 + k.val, by omega⟩ c
  simp only [hw, hw', h.off, ← EReal.coe_sub, ← EReal.coe_mul, ← Const.coe_sum, ← EReal.coe_add]
  congr 1
  unfold Spec.feat Spec.u Spec.v
  simp only [Fin.sum_univ_three]
  ring

/-- The edges are numbered one by one. -/
theorem edge_bij : Function.Bijective fun t : Fin 50 × Fin 1000 × Fin 20 => edge t.1 t.2.1 t.2.2 := by
  constructor
  · rintro ⟨q, i, s⟩ ⟨q', i', s'⟩ he
    have h1 : q.val * 20000 + i.val * 20 + s.val = q'.val * 20000 + i'.val * 20 + s'.val := congrArg Fin.val he
    have := i.isLt; have := s.isLt; have := i'.isLt; have := s'.isLt
    refine Prod.ext (Fin.ext ?_) (Prod.ext (Fin.ext ?_) (Fin.ext ?_)) <;> show _ = _ <;> dsimp only <;> omega
  · intro n
    have := n.isLt
    refine ⟨(⟨n.val / 20000, by omega⟩, ⟨n.val / 20 % 1000, by omega⟩, ⟨n.val % 20, by omega⟩), Fin.ext ?_⟩
    show n.val / 20000 * 20000 + n.val / 20 % 1000 * 20 + n.val % 20 = n.val
    omega

/-- A sum over the twenty neighbours is a sum over all points that counts the neighbours. -/
theorem sum_nbr (p : Fin 1000 → Fin 3 → ℝ) (i : Fin 1000) (f : Fin 1000 → ℝ) :
    ∑ s, f (nbr p i s) = ∑ j, Spec.ind (Spec.near p i j) * f j := by
  rw [← (order_bij p i).sum_comp]
  simp only [Spec.near, rank_order, Spec.ind, ite_mul, one_mul, zero_mul]
  rw [← Finset.sum_filter]
  have : (Finset.univ.filter fun k : Fin 1000 => k.val < 20) = Finset.univ.map (Fin.castLEEmb (by norm_num : 20 ≤ 1000)) := by
    ext k
    simp only [Finset.mem_filter, Finset.mem_univ, true_and, Finset.mem_map]
    constructor
    · intro hk; exact ⟨⟨k.val, hk⟩, Fin.ext rfl⟩
    · rintro ⟨s, hs⟩; rw [← hs]; exact s.isLt
  rw [show (Finset.filter (fun k : Fin 1000 => k.val < 20) Finset.univ) = _ from this, Finset.sum_map]
  rfl

/-- A sum over the edges. -/
theorem sum_edges (F : Fin 1000000 → EReal) (f : Fin 50 → Fin 1000 → Fin 1000 → ℝ)
    (hF : ∀ q i s, F (edge q i s) = ((f q i (nbr (P q) i s) : ℝ) : EReal)) :
    ∑ n, F n = ((∑ q, ∑ i, ∑ j, Spec.ind (Spec.near (P q) i j) * f q i j : ℝ) : EReal) := by
  rw [← edge_bij.sum_comp]
  simp only [hF, ← sum_nbr, ← Const.coe_sum]
  rw [Fintype.sum_prod_type]
  simp only [Fintype.sum_prod_type]

/-- The mean of a channel. -/
theorem v45_eq (h : Spec.Inputs P W b g e x0 x2 x3 x4 x5) (c : Fin 64) :
    val_main_v45 (F := Ideal) x0 x2 x3 (ix1 c) = ((Spec.mean P W b c : ℝ) : EReal) := by
  rw [v45_at, sum_edges (P := P) _ (fun q i j => Spec.feat P W b q i j c) (fun q i s => v42_eq h q i s c)]
  unfold Ideal.div
  rw [if_neg (by exact_mod_cast (by norm_num : (1000000 : ℝ) ≠ 0)), ← EReal.coe_inv, ← EReal.coe_mul]
  rfl

/-- The variance of a channel. -/
theorem v46_eq (h : Spec.Inputs P W b g e x0 x2 x3 x4 x5) (c : Fin 64) :
    val_main_v46 (F := Ideal) x0 x2 x3 (ix1 c) = ((Spec.var P W b c : ℝ) : EReal) := by
  rw [v46_at, v45_eq h, sum_edges (P := P) _ (fun q i j => (Spec.feat P W b q i j c - Spec.mean P W b c) * (Spec.feat P W b q i j c - Spec.mean P W b c))
    (fun q i s => by rw [v42_eq h, ← EReal.coe_sub, ← EReal.coe_mul])]
  unfold Ideal.div
  rw [if_neg (by exact_mod_cast (by norm_num : (1000000 : ℝ) ≠ 0)), ← EReal.coe_inv, ← EReal.coe_mul, Spec.var_eq]

/-- Reals around an extended real may be brought together. -/
theorem add_sub_real (x y : ℝ) (t : EReal) : (x : EReal) + (t - (y : EReal)) = ((x - y : ℝ) : EReal) + t := by
  rw [sub_eq_add_neg, add_comm t, ← add_assoc, ← EReal.coe_neg, ← EReal.coe_add, ← sub_eq_add_neg]

/-- The normalised and rectified feature of an edge. -/
theorem v66_eq (h : Spec.Inputs P W b g e x0 x2 x3 x4 x5) (q : Fin 50) (i : Fin 1000) (s : Fin 20) (c : Fin 64) :
    val_main_v66 (F := Ideal) x0 x2 x3 x4 x5 (ix2 (edge q i s) c)
      = Pay.leaky (Spec.norm P W b g e c (Spec.feat P W b q i (nbr (P q) i s) c)) := by
  have hp := Spec.var_pos P W b c
  have hs := Real.sqrt_pos.mpr hp
  rw [v66_at, v42_eq h, v45_eq h, v46_eq h, h.gamma, h.beta, ← EReal.coe_add, Ideal.sqrt_coe, if_neg hp.not_gt]
  unfold Ideal.div
  rw [if_neg (by exact_mod_cast hs.ne'), ← EReal.coe_inv, ← EReal.coe_sub, ← EReal.coe_mul, ← EReal.coe_mul]
  refine congrArg Pay.leaky ?_
  unfold Spec.norm Spec.scale
  rw [add_sub_real]
  refine congrArg (fun t : ℝ => (t : EReal) + e c) ?_
  ring

/-- The reference's result, at an entry. -/
theorem v78_eq (h : Spec.Inputs P W b g e x0 x2 x3 x4 x5) (q : Fin 50) (j : Fin 1000) (c : Fin 64) :
    val_main_v78 (F := Ideal) x0 x2 x3 x4 x5 (ix2 ⟨q.val * 1000 + j.val, by omega⟩ c) = Spec.out P W b g e q j c := by
  classical
  rw [v78_at]
  have hv : ∀ n : Fin 20000, val_main_v76 (F := Ideal) x0 x2 x3 x4 x5 (ix4 q n j c)
      = if nbr (P q) ⟨n.val / 20, by omega⟩ ⟨n.val % 20, by omega⟩ = j
        then Pay.leaky (Spec.norm P W b g e c (Spec.feat P W b q ⟨n.val / 20, by omega⟩ j c)) else ⊥ := fun n => by
    rw [v76_at x0 x2 x3 x4 x5 q n j _ c (indices_eq h q _ _)]
    refine if_ctx_congr Iff.rfl (fun hn => ?_) (fun _ => rfl)
    have he : (⟨q.val * 20000 + n.val, by omega⟩ : Fin 1000000) = edge q ⟨n.val / 20, by omega⟩ ⟨n.val % 20, by omega⟩ :=
      Fin.ext (by show q.val * 20000 + n.val = q.val * 20000 + n.val / 20 * 20 + n.val % 20; omega)
    rw [he, v66_eq h, hn]
  simp only [hv]
  unfold Spec.out
  refine le_antisymm (Finset.sup_le fun n _ => ?_) (Finset.sup_le fun i _ => ?_)
  · split
    · rename_i hn
      refine le_trans ?_ (Finset.le_sup (Finset.mem_univ (⟨n.val / 20, by omega⟩ : Fin 1000)))
      have hnear : Spec.near (P q) ⟨n.val / 20, by omega⟩ j := by
        unfold Spec.near
        rw [← hn]
        unfold nbr
        rw [rank_order]
        exact Nat.mod_lt _ (by norm_num)
      rw [if_pos hnear]
    · exact bot_le
  · split
    · rename_i hn
      obtain ⟨k, hk⟩ := (order_bij (P q) i).2 j
      have hk20 : k.val < 20 := by
        unfold Spec.near at hn
        rw [← hk, rank_order] at hn
        exact hn
      have hi := i.isLt
      refine le_trans ?_ (Finset.le_sup (Finset.mem_univ (⟨i.val * 20 + k.val, by omega⟩ : Fin 20000)))
      have e1 : (⟨(i.val * 20 + k.val) / 20, by omega⟩ : Fin 1000) = i := Fin.ext (by show (i.val * 20 + k.val) / 20 = i.val; omega)
      have e2 : (⟨(i.val * 20 + k.val) % 20, by omega⟩ : Fin 20) = ⟨k.val, hk20⟩ := Fin.ext (by show (i.val * 20 + k.val) % 20 = k.val; omega)
      have e3 : nbr (P q) i ⟨k.val, hk20⟩ = j := hk
      simp only [e1, e2, e3, if_true]
      exact le_rfl
    · exact bot_le

end Cert.Ref

end

end
-- ==== Proof.Finite.lean ====
module

public import proofs.«01_k».proof.Proof.Value
public import proofs.«01_k».proof.Proof.Gen.Pre_finite
public import Idealize.ShloMosaic.Lib.ReduceAll

@[expose] public section

/-! # What the precondition says -/

noncomputable section

namespace Cert.Finite

open Idealize.ShloMosaic Cert.Pre_finite

/-- An entry whose absolute value is below infinity is a real number. -/
theorem real_of_abs (x : EReal)
    (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have h' : BitVec.ofBool (decide (max x (-x) < Ideal.ofBits .f32 0x7F800000#32)) = 1#1 := h
  rw [Const.top] at h'
  have hlt : max x (-x) < ⊤ := by
    by_contra hn
    simp [hn] at h'
  refine (EReal.coe_toReal (ne_top_of_lt (lt_of_le_of_lt (le_max_left _ _) hlt)) fun hb => ?_).symm
  rw [hb] at hlt
  simp at hlt

/-- The reduction over everything gives one only where every entry does. -/
theorem entry {s : Shape} {axes : List (Fin s.rank)} (x : s.Idx → BitVec 1) (init : S_.Idx → BitVec 1) (hr : s.ReducesTo axes S_)
    (hu : 0 < S_.numel) (e : Host.reduce IntOp.andi x init hr hu ix0 = 1#1) (i : s.Idx) : x i = 1#1 :=
  haveI : Subsingleton S_.Idx := ⟨fun a b => funext fun d => d.elim0⟩
  Host.reduce_andi_all x init hr hu ix0 e i

/-- All inputs but the offset of the normalisation are real numbers, and the weights of the normalisation are positive. -/
theorem inputs (a0 : S50000x3.Idx → EReal) (a1 : S50000.Idx → BitVec 32) (a2 : S6x64.Idx → EReal) (a3 a4 a5 : S64.Idx → EReal)
    (h : Cert.Pre_finite.fn (F := Ideal) a0 a1 a2 a3 a4 a5 = fun _ => 1#1) :
    Spec.Inputs (fun q i k => (a0 (ix2 ⟨q.val * 1000 + i.val, by omega⟩ k)).toReal) (fun k c => (a2 (ix2 k c)).toReal)
      (fun c => (a3 (ix1 c)).toReal) (fun c => (a4 (ix1 c)).toReal) (fun c => a5 (ix1 c)) a0 a2 a3 a4 a5 := by
  have h0 := congrFun h ix0
  unfold Cert.Pre_finite.fn Cert.Pre_finite.fn_part1 at h0
  obtain ⟨h1, p4⟩ := IntOp.andi_eq_one.1 h0
  obtain ⟨h3, f4⟩ := IntOp.andi_eq_one.1 h1
  obtain ⟨h4, f3⟩ := IntOp.andi_eq_one.1 h3
  obtain ⟨f0, f2⟩ := IntOp.andi_eq_one.1 h4
  have g4 : ∀ c : Fin 64, a4 (ix1 c) = (((a4 (ix1 c)).toReal : ℝ) : EReal) := fun c => real_of_abs _ (entry _ _ _ _ f4 (ix1 c))
  refine ⟨fun q i k => real_of_abs _ (entry _ _ _ _ f0 (ix2 ⟨q.val * 1000 + i.val, by omega⟩ k)), fun k c => real_of_abs _ (entry _ _ _ _ f2 (ix2 k c)),
    fun c => real_of_abs _ (entry _ _ _ _ f3 (ix1 c)), g4, fun _ => rfl, fun c => ?_⟩
  have hp : BitVec.ofBool (decide (Ideal.ofBits .f32 0x00000000#32 < a4 (ix1 c))) = 1#1 := entry _ _ _ _ p4 (ix1 c)
  rw [Ideal.ofBits_zero_f32, g4 c] at hp
  have : ((0 : ℝ) : EReal) < (((a4 (ix1 c)).toReal : ℝ) : EReal) := by
    by_contra hn
    simp only [EReal.coe_zero] at hn
    simp [hn] at hp
  exact_mod_cast this

end Cert.Finite

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.KRun
public import proofs.«01_k».proof.Proof.Value
public import proofs.«01_k».proof.Proof.Ref1
public import proofs.«01_k».proof.Proof.Finite
public import Idealize.ShloMosaic.Adequacy
public import Idealize.ShloMosaic.Init

@[expose] public section

noncomputable section

namespace Cert.Proof

open Idealize.ShloMosaic Idealize.SL.Sem

/-- The kernel's frame, on bits. -/
theorem frame_p : Cert.quiescent_Kernel (hKernel := Cert.Kernel.Gen.facts) := fun m ρ _ =>
  (θ_run Cert.Kernel.defs _ _).mono (fun _ h => ⟨fun c => (h.1 c).2, h.2⟩) (Cert.Kernel.Body.run m ρ)

/-- The idealised kernel's frame. -/
theorem frame_pi : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Body.run m ρ)

/-- The reference's frame: it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The two named constants. -/
theorem preserves : Cert.preserves_Kernel_KernelIdeal :=
  ⟨IdealRules.named_const.statement Cert.KernelIdeal.κ "big" .f32 0x7F61B1E6#32 ⊤ rfl,
    IdealRules.named_const.statement Cert.KernelIdeal.κ "inv_e" .f32 0x358637BD#32 ((1000000⁻¹ : ℝ) : EReal) rfl⟩

/-- The idealised kernel's frame, on finite inputs. -/
theorem frame_pi_pre : Cert.quiescent_KernelIdeal_pre_finite (hKernelIdeal := Cert.KernelIdeal.Gen.facts)
    (hPre_finite := Cert.Pre_finite.Gen.facts) := fun m ρ _ => frame_pi m ρ trivial

/-- The reference's frame, on finite inputs. -/
theorem frame_ri_pre : Cert.quiescent_ReferenceIdeal_pre_finite (hReferenceIdeal := Cert.ReferenceIdeal.Gen.facts)
    (hPre_finite := Cert.Pre_finite.Gen.facts) := fun m ρ _ => frame_ri m ρ trivial

/-- On finite inputs the reference's result is the kernel's, entry by entry. -/
theorem result_eq (m : (ℓ : Loc Cert.KernelIdeal.nD Cert.KernelIdeal.τ Cert.KernelIdeal.sig) → Buf (Elt Ideal) ℓ)
    (c : Dev Cert.KernelIdeal.nD) (h : Cert.Pre_KernelIdeal_finite (hPre_finite := Cert.Pre_finite.Gen.facts) m)
    (x0 : Cert.ReferenceIdeal.S50000x3.Idx → EReal) (x2 : Cert.ReferenceIdeal.S6x64.Idx → EReal) (x3 x4 x5 : Cert.ReferenceIdeal.S64.Idx → EReal)
    (e0 : x0 = m ((c.tc : Thread Cert.KernelIdeal.nD Cert.KernelIdeal.τ).loc Cert.KernelIdeal.main_arg0))
    (e2 : x2 = m ((c.tc : Thread Cert.KernelIdeal.nD Cert.KernelIdeal.τ).loc Cert.KernelIdeal.main_arg2))
    (e3 : x3 = m ((c.tc : Thread Cert.KernelIdeal.nD Cert.KernelIdeal.τ).loc Cert.KernelIdeal.main_arg3))
    (e4 : x4 = m ((c.tc : Thread Cert.KernelIdeal.nD Cert.KernelIdeal.τ).loc Cert.KernelIdeal.main_arg4))
    (e5 : x5 = m ((c.tc : Thread Cert.KernelIdeal.nD Cert.KernelIdeal.τ).loc Cert.KernelIdeal.main_arg5)) :
    Cert.ReferenceIdeal.Read.val_main_v78 (F := Ideal) x0 x2 x3 x4 x5
      = (Cert.KernelIdeal.Body.result m c : Cert.KernelIdeal.S50000x64.Idx → EReal) := by
  subst e0 e2 e3 e4 e5
  have hi := Cert.Finite.inputs _ _ _ _ _ _ (h c)
  funext n
  obtain ⟨a, r, rfl⟩ : ∃ (a : Fin 50000) (r : Fin 64), n = ix2 a r := ⟨n 0, n 1, eq_ix2 n⟩
  have ha : a = ⟨(⟨a.val / 1000, by omega⟩ : Fin 50).val * 1000 + (⟨a.val % 1000, by omega⟩ : Fin 1000).val, by
      show a.val / 1000 * 1000 + a.val % 1000 < 50000; omega⟩ :=
    Fin.ext (by show a.val = a.val / 1000 * 1000 + a.val % 1000; omega)
  rw [ha]
  exact (Cert.Ref.v78_eq hi _ _ r).trans (Cert.Value.result_at hi _ _ r).symm

/-- On finite inputs (the offset of the normalisation may be infinite) with positive weights of the normalisation, the idealised kernel and the reference leave equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hargs =>
  ⟨fun c => Cert.KernelIdeal.Body.result m c,
    (θ_run Cert.KernelIdeal.defs _ _).mono (fun _ h c => h.1 c) (Cert.KernelIdeal.Body.run m ρ),
    (θ_run Cert.ReferenceIdeal.defs _ _).mono
      (fun _ h c => ⟨((h c).1.trans (Cert.ReferenceIdeal.Read.val_main_v78_eq (StableHlo.launchContents m' c))).trans
          (result_eq m c hpre _ _ _ _ _ (hargs c).1 (hargs c).2.2.1 (hargs c).2.2.2.1 (hargs c).2.2.2.2.1 (hargs c).2.2.2.2.2), (h c).2⟩)
      (Cert.ReferenceIdeal.Value.run m' ρ')⟩

/-- The certificate's claim. -/
theorem claim : Cert.Claim :=
  ⟨Cert.Kernel.Gen.facts, Cert.KernelIdeal.Gen.facts, Cert.ReferenceIdeal.Gen.facts, Cert.Pre_finite.Gen.facts, frame_p, frame_pi, frame_pi_pre,
    frame_ri, frame_ri_pre, preserves, algebraic⟩

end Cert.Proof

end
